-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_range [hPre_unit_range : Cert.Pre_unit_range.Facts] (m : (ℓ : Loc Cert.KernelIdeal.nD Cert.KernelIdeal.τ Cert.KernelIdeal.sig) → Buf (Elt Ideal) ℓ) : Prop :=
  ∀ c : Dev Cert.KernelIdeal.nD,
    (Cert.Pre_unit_range.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_range [hPre_unit_range : Cert.Pre_unit_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_range.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_unit_range [hKernelIdeal : Cert.KernelIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_unit_range [hReferenceIdeal : Cert.ReferenceIdeal.Facts] [hPre_unit_range : Cert.Pre_unit_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "c1_255" .f32 0x3B808081#32 ((1 / 255 : ℝ) : EReal)
  ∧ IdealRules.named_const.Statement Cert.KernelIdeal.κ "c81_40" .f32 0x4001999A#32 ((81 / 40 : ℝ) : EReal)
  ∧ IdealRules.named_const.Statement Cert.KernelIdeal.κ "c1_24" .f32 0x3D2AAAAB#32 ((1 / 24 : ℝ) : EReal)
  ∧ IdealRules.named_const.Statement Cert.KernelIdeal.κ "cm1_120" .f32 0xBC088889#32 ((-1 / 120 : ℝ) : EReal)
  ∧ IdealRules.named_const.Statement Cert.KernelIdeal.κ "cm1_12" .f32 0xBDAAAAAB#32 ((-1 / 12 : ℝ) : EReal)

def algebraic_KernelIdeal_ReferenceIdeal_pre_unit_range [hKernelIdeal : Cert.KernelIdeal.Facts] [hReferenceIdeal : Cert.ReferenceIdeal.Facts] [hPre_unit_range : Cert.Pre_unit_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_unit_range : Cert.Pre_unit_range.Facts),
    quiescent_Kernel (hKernel := hKernel)
    ∧ quiescent_KernelIdeal (hKernelIdeal := hKernelIdeal)
    ∧ quiescent_KernelIdeal_pre_unit_range (hKernelIdeal := hKernelIdeal) (hPre_unit_range := hPre_unit_range)
    ∧ quiescent_ReferenceIdeal (hReferenceIdeal := hReferenceIdeal)
    ∧ quiescent_ReferenceIdeal_pre_unit_range (hReferenceIdeal := hReferenceIdeal) (hPre_unit_range := hPre_unit_range)
    ∧ preserves_Kernel_KernelIdeal
    ∧ algebraic_KernelIdeal_ReferenceIdeal_pre_unit_range (hKernelIdeal := hKernelIdeal) (hReferenceIdeal := hReferenceIdeal) (hPre_unit_range := hPre_unit_range)
-- ==== Pre_unit_range.lean ====
abbrev S2x1x512x512 : Shape := ⟨4, ![2, 1, 512, 512]⟩
abbrev S_ : Shape := ⟨0, ![]⟩

class Facts : Prop where
  bcast_S_S2x1x512x512 : S_.BroadcastsInDim S2x1x512x512 (![] : Fin 0 → Fin S2x1x512x512.rank)

variable [Facts]

def fn {F : FTy → Type} [FloatOps F] (main_arg0 : FVec F S2x1x512x512 .f32) : IVec S2x1x512x512 1 :=
  let main_cst : FVec F S_ .f32 := constant S_ .f32 0x00000000#32
  let main_v0 : FVec F S2x1x512x512 .f32 := broadcastInDim S2x1x512x512 ![] bcast_S_S2x1x512x512 main_cst
  let main_v1 : IVec S2x1x512x512 1 := cmpf .oge main_arg0 main_v0
  let main_cst_0 : FVec F S_ .f32 := constant S_ .f32 0x3F800000#32
  let main_v2 : FVec F S2x1x512x512 .f32 := broadcastInDim S2x1x512x512 ![] bcast_S_S2x1x512x512 main_cst_0
  let main_v3 : IVec S2x1x512x512 1 := cmpf .ole main_arg0 main_v2
  let main_v4 : IVec S2x1x512x512 1 := andi main_v1 main_v3
  main_v4
-- ==== Kernel.lean ====
abbrev S2x1x512x512 : Shape := ⟨4, ![2, 1, 512, 512]⟩
abbrev S2x8x64x8x64 : Shape := ⟨5, ![2, 8, 64, 8, 64]⟩
abbrev S2x8x8x64x64 : Shape := ⟨5, ![2, 8, 8, 64, 64]⟩
abbrev S128x8x512 : Shape := ⟨3, ![128, 8, 512]⟩
abbrev S128x1x256 : Shape := ⟨3, ![128, 1, 256]⟩
abbrev S1x8x512 : Shape := ⟨3, ![1, 8, 512]⟩
abbrev S1x1x256 : Shape := ⟨3, ![1, 1, 256]⟩
abbrev S8x512 : Shape := ⟨2, ![8, 512]⟩
abbrev S8x512x1 : Shape := ⟨3, ![8, 512, 1]⟩
abbrev S8x512x256 : Shape := ⟨3, ![8, 512, 256]⟩
abbrev S4096x256 : Shape := ⟨2, ![4096, 256]⟩
abbrev S256 : Shape := ⟨1, ![256]⟩
abbrev S1x256 : Shape := ⟨2, ![1, 256]⟩
abbrev S1 : Shape := ⟨1, ![1]⟩
abbrev S1x1x1 : Shape := ⟨3, ![1, 1, 1]⟩
abbrev S256x256 : Shape := ⟨2, ![256, 256]⟩
abbrev S2x64x256 : Shape := ⟨3, ![2, 64, 256]⟩
abbrev S2x64x1 : Shape := ⟨3, ![2, 64, 1]⟩
abbrev S2x64x4 : Shape := ⟨3, ![2, 64, 4]⟩
abbrev S_ : Shape := ⟨0, ![]⟩
abbrev S511 : Shape := ⟨1, ![511]⟩
abbrev S512 : Shape := ⟨1, ![512]⟩
abbrev S512x1 : Shape := ⟨2, ![512, 1]⟩
abbrev S6 : Shape := ⟨1, ![6]⟩
abbrev S1x6 : Shape := ⟨2, ![1, 6]⟩
abbrev S512x6 : Shape := ⟨2, ![512, 6]⟩
abbrev S512x6x1 : Shape := ⟨3, ![512, 6, 1]⟩
abbrev S8 : Shape := ⟨1, ![8]⟩
abbrev S1x1x8 : Shape := ⟨3, ![1, 1, 8]⟩
abbrev S512x6x8 : Shape := ⟨3, ![512, 6, 8]⟩
abbrev S512x8 : Shape := ⟨2, ![512, 8]⟩
abbrev S512x8x8 : Shape := ⟨3, ![512, 8, 8]⟩
abbrev S512x64 : Shape := ⟨2, ![512, 64]⟩
abbrev S1x512x1x8 : Shape := ⟨4, ![1, 512, 1, 8]⟩
abbrev S1x512x8x8 : Shape := ⟨4, ![1, 512, 8, 8]⟩
abbrev S2x512x512 : Shape := ⟨3, ![2, 512, 512]⟩
abbrev S1x64x256 : Shape := ⟨3, ![1, 64, 256]⟩
abbrev S1x64x4 : Shape := ⟨3, ![1, 64, 4]⟩
abbrev S8x64 : Shape := ⟨2, ![8, 64]⟩
abbrev S64x256 : Shape := ⟨2, ![64, 256]⟩
abbrev S4096x64 : Shape := ⟨2, ![4096, 64]⟩
abbrev S8x512x4 : Shape := ⟨3, ![8, 512, 4]⟩
abbrev S4096x4 : Shape := ⟨2, ![4096, 4]⟩
abbrev S64x4 : Shape := ⟨2, ![64, 4]⟩
abbrev S8x512x64 : Shape := ⟨3, ![8, 512, 64]⟩
abbrev S8x1x64 : Shape := ⟨3, ![8, 1, 64]⟩
abbrev S1x512x64 : Shape := ⟨3, ![1, 512, 64]⟩
abbrev S1x2x512x512 : Shape := ⟨4, ![1, 2, 512, 512]⟩
abbrev S1x1x1x1 : Shape := ⟨4, ![1, 1, 1, 1]⟩

abbrev nBuf : Space → Nat
  | .hbm => 179
  | .vmem => 17
  | .smem => 0
  | _ => 0

abbrev hbmTy0_0 (i : Nat) : BufTy := match i % 128 with
  | 0 => ⟨S2x1x512x512, .f32⟩
  | 1 => ⟨S2x8x64x8x64, .f32⟩
  | 2 => ⟨S2x8x8x64x64, .f32⟩
  | 3 => ⟨S128x8x512, .f32⟩
  | 4 => ⟨S128x1x256, .f32⟩
  | 5 => ⟨S2x64x256, .f32⟩
  | 6 => ⟨S2x64x1, .f32⟩
  | 7 => ⟨S2x64x1, .f32⟩
  | 8 => ⟨S2x64x1, .f32⟩
  | 9 => ⟨S2x64x1, .f32⟩
  | 10 => ⟨S2x64x4, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S511, .f32⟩
  | 19 => ⟨S_, .f32⟩
  | 20 => ⟨S511, .f32⟩
  | 21 => ⟨S511, .f32⟩
  | 22 => ⟨S1, .f32⟩
  | 23 => ⟨S_, .f32⟩
  | 24 => ⟨S511, .f32⟩
  | 25 => ⟨S511, .f32⟩
  | 26 => ⟨S511, .f32⟩
  | 27 => ⟨S511, .f32⟩
  | 28 => ⟨S1, .f32⟩
  | 29 => ⟨S511, .f32⟩
  | 30 => ⟨S511, .f32⟩
  | 31 => ⟨S511, .f32⟩
  | 32 => ⟨S1, .f32⟩
  | 33 => ⟨S512, .f32⟩
  | 34 => ⟨S512, .f32⟩
  | 35 => ⟨S512, .i32⟩
  | 36 => ⟨S512x1, .i32⟩
  | 37 => ⟨S_, .i32⟩
  | 38 => ⟨S512x1, .i32⟩
  | 39 => ⟨S512x1, .i32⟩
  | 40 => ⟨S6, .i32⟩
  | 41 => ⟨S1x6, .i32⟩
  | 42 => ⟨S512x6, .i32⟩
  | 43 => ⟨S512x6, .i32⟩
  | 44 => ⟨S512x6, .i32⟩
  | 45 => ⟨S512x1, .f32⟩
  | 46 => ⟨S512x6, .f32⟩
  | 47 => ⟨S512x6, .f32⟩
  | 48 => ⟨S512x6, .f32⟩
  | 49 => ⟨S512x6, .f32⟩
  | 50 => ⟨S512x6, .f32⟩
  | 51 => ⟨S512x6, .f32⟩
  | 52 => ⟨S_, .f32⟩
  | 53 => ⟨S512x6, .f32⟩
  | 54 => ⟨S512x6, .f32⟩
  | 55 => ⟨S_, .f32⟩
  | 56 => ⟨S512x6, .f32⟩
  | 57 => ⟨S512x6, .f32⟩
  | 58 => ⟨S_, .f32⟩
  | 59 => ⟨S512x6, .f32⟩
  | 60 => ⟨S512x6, .f32⟩
  | 61 => ⟨S512x6, .f32⟩
  | 62 => ⟨S512x6, .f32⟩
  | 63 => ⟨S_, .f32⟩
  | 64 => ⟨S512x6, .f32⟩
  | 65 => ⟨S512x6, .f32⟩
  | 66 => ⟨S512x6, .f32⟩
  | 67 => ⟨S_, .f32⟩
  | 68 => ⟨S512x6, .f32⟩
  | 69 => ⟨S512x6, .f32⟩
  | 70 => ⟨S_, .f32⟩
  | 71 => ⟨S512x6, .f32⟩
  | 72 => ⟨S512x6, .f32⟩
  | 73 => ⟨S_, .f32⟩
  | 74 => ⟨S512x6, .f32⟩
  | 75 => ⟨S512x6, .f32⟩
  | 76 => ⟨S_, .f32⟩
  | 77 => ⟨S512x6, .f32⟩
  | 78 => ⟨S512x6, .f32⟩
  | 79 => ⟨S_, .f32⟩
  | 80 => ⟨S512x6, .f32⟩
  | 81 => ⟨S512x6, .f32⟩
  | 82 => ⟨S512x6, .f32⟩
  | 83 => ⟨S_, .f32⟩
  | 84 => ⟨S512x6, .f32⟩
  | 85 => ⟨S512x6, .f32⟩
  | 86 => ⟨S512x6, .f32⟩
  | 87 => ⟨S_, .f32⟩
  | 88 => ⟨S512x6, .f32⟩
  | 89 => ⟨S512x6, .f32⟩
  | 90 => ⟨S512x6, .f32⟩
  | 91 => ⟨S_, .f32⟩
  | 92 => ⟨S512x6, .f32⟩
  | 93 => ⟨S512x6, .f32⟩
  | 94 => ⟨S_, .f32⟩
  | 95 => ⟨S512x6, .f32⟩
  | 96 => ⟨S512x6, .f32⟩
  | 97 => ⟨S512x6, .f32⟩
  | 98 => ⟨S512x6, .f32⟩
  | 99 => ⟨S_, .f32⟩
  | 100 => ⟨S512x6, .f32⟩
  | 101 => ⟨S512x6, .f32⟩
  | 102 => ⟨S512x6, .f32⟩
  | 103 => ⟨S_, .f32⟩
  | 104 => ⟨S512x6, .f32⟩
  | 105 => ⟨S512x6, .f32⟩
  | 106 => ⟨S512x6, .f32⟩
  | 107 => ⟨S512x6, .f32⟩
  | 108 => ⟨S512x6, .f32⟩
  | 109 => ⟨S_, .f32⟩
  | 110 => ⟨S512x6, .f32⟩
  | 111 => ⟨S512x6, .f32⟩
  | 112 => ⟨S_, .f32⟩
  | 113 => ⟨S512x6, .f32⟩
  | 114 => ⟨S512x6, .i1⟩
  | 115 => ⟨S_, .f32⟩
  | 116 => ⟨S512x6, .f32⟩
  | 117 => ⟨S512x6, .i1⟩
  | 118 => ⟨S_, .f32⟩
  | 119 => ⟨S512x6, .f32⟩
  | 120 => ⟨S512x6, .i1⟩
  | 121 => ⟨S_, .f32⟩
  | 122 => ⟨S_, .f32⟩
  | 123 => ⟨S512x6, .f32⟩
  | 124 => ⟨S512x6, .f32⟩
  | 125 => ⟨S512x6, .f32⟩
  | 126 => ⟨S512x6, .f32⟩
  | 127 => ⟨S_, .i32⟩
  | _ => ⟨S2x1x512x512, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S512x6, .i32⟩
  | 6 => ⟨S512x6, .i32⟩
  | 7 => ⟨S_, .i32⟩
  | 8 => ⟨S512x6, .i32⟩
  | 9 => ⟨S512x6, .i1⟩
  | 10 => ⟨S_, .i32⟩
  | 11 => ⟨S512x6, .i32⟩
  | 12 => ⟨S512x6, .i1⟩
  | 13 => ⟨S_, .i32⟩
  | 14 => ⟨S_, .i1⟩
  | 15 => ⟨S512x6, .i1⟩
  | 16 => ⟨S512x6, .i1⟩
  | 17 => ⟨S512x6, .i1⟩
  | 18 => ⟨S512x6, .i32⟩
  | 19 => ⟨S512x6, .i32⟩
  | 20 => ⟨S512x6, .i32⟩
  | 21 => ⟨S_, .i32⟩
  | 22 => ⟨S512x6, .i32⟩
  | 23 => ⟨S512x6, .i1⟩
  | 24 => ⟨S_, .i32⟩
  | 25 => ⟨S512x6, .i32⟩
  | 26 => ⟨S512x6, .i32⟩
  | 27 => ⟨S512x6, .i32⟩
  | 28 => ⟨S512x6x1, .i32⟩
  | 29 => ⟨S8, .i32⟩
  | 30 => ⟨S1x1x8, .i32⟩
  | 31 => ⟨S512x6x8, .i32⟩
  | 32 => ⟨S512x6x8, .i32⟩
  | 33 => ⟨S512x6x8, .i1⟩
  | 34 => ⟨S512x6x1, .f32⟩
  | 35 => ⟨S_, .f32⟩
  | 36 => ⟨S_, .f32⟩
  | 37 => ⟨S512x6x8, .f32⟩
  | 38 => ⟨S512x6x8, .f32⟩
  | 39 => ⟨S512x6x8, .f32⟩
  | 40 => ⟨S_, .f32⟩
  | 41 => ⟨S512x8, .f32⟩
  | 42 => ⟨S512x8x8, .f32⟩
  | 43 => ⟨S512x64, .f32⟩
  | 44 => ⟨S1x512x1x8, .f32⟩
  | 45 => ⟨S1x512x8x8, .f32⟩
  | 46 => ⟨S512x64, .f32⟩
  | 47 => ⟨S2x512x512, .f32⟩
  | 48 => ⟨S2x512x512, .f32⟩
  | 49 => ⟨S2x512x512, .f32⟩
  | 50 => ⟨S2x1x512x512, .f32⟩
  | _ => ⟨S2x1x512x512, .f32⟩

abbrev hbmTy (i : Nat) : BufTy := match i / 128 with
  | 0 => hbmTy0_0 i
  | 1 => hbmTy0_1 i
  | _ => ⟨S2x1x512x512, .f32⟩

abbrev bufTy : (tb : Table) → Fin (tcTables nBuf tb) → BufTy
  | .hbm, ⟨i, _⟩ => hbmTy i
  | .local _ .vmem, ⟨0, _⟩ => ⟨S1x8x512, .f32⟩
  | .local _ .vmem, ⟨1, _⟩ => ⟨S1x8x512, .f32⟩
  | .local _ .vmem, ⟨2, _⟩ => ⟨S1x1x256, .f32⟩
  | .local _ .vmem, ⟨3, _⟩ => ⟨S1x1x256, .f32⟩
  | .local _ .vmem, ⟨4, _⟩ => ⟨S1x8x512, .f32⟩
  | .local _ .vmem, ⟨5, _⟩ => ⟨S1x8x512, .f32⟩
  | .local _ .vmem, ⟨6, _⟩ => ⟨S1x64x256, .f32⟩
  | .local _ .vmem, ⟨7, _⟩ => ⟨S1x64x256, .f32⟩
  | .local _ .vmem, ⟨8, _⟩ => ⟨S1x64x4, .f32⟩
  | .local _ .vmem, ⟨9, _⟩ => ⟨S1x64x4, .f32⟩
  | .local _ .vmem, ⟨10, _⟩ => ⟨S8x64, .f32⟩
  | .local _ .vmem, ⟨11, _⟩ => ⟨S8x64, .f32⟩
  | .local _ .vmem, ⟨12, _⟩ => ⟨S512x64, .f32⟩
  | .local _ .vmem, ⟨13, _⟩ => ⟨S1x8x512, .f32⟩
  | .local _ .vmem, ⟨14, _⟩ => ⟨S1x8x512, .f32⟩
  | .local _ .vmem, ⟨15, _⟩ => ⟨S2x512x512, .f32⟩
  | .local _ .vmem, ⟨16, _⟩ => ⟨S2x512x512, .f32⟩
  | _, _ => ⟨S2x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_cst_6 : Ref sig .tc := ⟨.hbm, 70, rfl⟩
abbrev main_v41 : Ref sig .tc := ⟨.hbm, 71, rfl⟩
abbrev main_v42 : Ref sig .tc := ⟨.hbm, 72, rfl⟩
abbrev main_cst_7 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_14 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_16 : Ref sig .tc := ⟨.hbm, 109, rfl⟩
abbrev main_v70 : Ref sig .tc := ⟨.hbm, 110, rfl⟩
abbrev main_v71 : Ref sig .tc := ⟨.hbm, 111, rfl⟩
abbrev main_cst_17 : Ref sig .tc := ⟨.hbm, 112, rfl⟩
abbrev main_v72 : Ref sig .tc := ⟨.hbm, 113, rfl⟩
abbrev main_v73 : Ref sig .tc := ⟨.hbm, 114, rfl⟩
abbrev main_cst_18 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_v77 : Ref sig .tc := ⟨.hbm, 120, rfl⟩
abbrev main_cst_20 : Ref sig .tc := ⟨.hbm, 121, rfl⟩
abbrev main_call1_v0 : Ref sig .tc := ⟨.hbm, 122, rfl⟩
abbrev main_call1_v1 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_21 : Ref sig .tc := ⟨.hbm, 127, rfl⟩
abbrev main_call4_v0 : Ref sig .tc := ⟨.hbm, 128, rfl⟩
abbrev main_call4_c : Ref sig .tc := ⟨.hbm, 129, rfl⟩
abbrev main_call4_v1 : Ref sig .tc := ⟨.hbm, 130, rfl⟩
abbrev main_call4_c_0 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_c_1 : Ref sig .tc := ⟨.hbm, 135, rfl⟩
abbrev main_call4_v5 : Ref sig .tc := ⟨.hbm, 136, rfl⟩
abbrev main_call4_v6 : Ref sig .tc := ⟨.hbm, 137, rfl⟩
abbrev main_call4_c_2 : Ref sig .tc := ⟨.hbm, 138, rfl⟩
abbrev main_call4_v7 : Ref sig .tc := ⟨.hbm, 139, rfl⟩
abbrev main_call4_v8 : Ref sig .tc := ⟨.hbm, 140, rfl⟩
abbrev main_call4_c_3 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_v12 : Ref sig .tc := ⟨.hbm, 145, rfl⟩
abbrev main_call4_v13 : Ref sig .tc := ⟨.hbm, 146, rfl⟩
abbrev main_call4_v14 : Ref sig .tc := ⟨.hbm, 147, rfl⟩
abbrev main_v81 : Ref sig .tc := ⟨.hbm, 148, rfl⟩
abbrev main_c_22 : Ref sig .tc := ⟨.hbm, 149, rfl⟩
abbrev main_v82 : Ref sig .tc := ⟨.hbm, 150, rfl⟩
abbrev main_v83 : Ref sig .tc := ⟨.hbm, 151, rfl⟩
abbrev main_c_23 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_cst_24 : Ref sig .tc := ⟨.hbm, 163, rfl⟩
abbrev main_call6_v0 : Ref sig .tc := ⟨.hbm, 164, rfl⟩
abbrev main_call6_v1 : Ref sig .tc := ⟨.hbm, 165, rfl⟩
abbrev main_call6_v2 : Ref sig .tc := ⟨.hbm, 166, rfl⟩
abbrev main_v94 : Ref sig .tc := ⟨.hbm, 167, rfl⟩
abbrev main_cst_25 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg1_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem1_0 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 64], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S512x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := .none

abbrev stage2_0 : Fin 1 → Memref sig .tc .vmem S2x512x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
-- ==== KernelIdeal.lean ====
variable {F : FTy → Type} [FloatOps F] [Named F]
def κ : String → Option EReal := fun
  | "c1_24" => some ((1 / 24 : ℝ) : EReal)
  | "c1_255" => some ((1 / 255 : ℝ) : EReal)
  | "c81_40" => some ((81 / 40 : ℝ) : EReal)
  | "cm1_12" => some ((-1 / 12 : ℝ) : EReal)
  | "cm1_120" => some ((-1 / 120 : ℝ) : EReal)
  | _ => none
-- ==== ReferenceIdeal.lean ====
abbrev S2x1x512x512 : Shape := ⟨4, ![2, 1, 512, 512]⟩
abbrev S2x1x8x64x8x64 : Shape := ⟨6, ![2, 1, 8, 64, 8, 64]⟩
abbrev S2x1x8x8x64x64 : Shape := ⟨6, ![2, 1, 8, 8, 64, 64]⟩
abbrev S2x1x64x4096 : Shape := ⟨4, ![2, 1, 64, 4096]⟩
abbrev S_ : Shape := ⟨0, ![]⟩
abbrev S255 : Shape := ⟨1, ![255]⟩
abbrev S1 : Shape := ⟨1, ![1]⟩
abbrev S256 : Shape := ⟨1, ![256]⟩
abbrev S2x1x64x4096x1 : Shape := ⟨5, ![2, 1, 64, 4096, 1]⟩
abbrev S1x1x1x1x256 : Shape := ⟨5, ![1, 1, 1, 1, 256]⟩
abbrev S2x1x64x4096x256 : Shape := ⟨5, ![2, 1, 64, 4096, 256]⟩
abbrev S2x1x64x256 : Shape := ⟨4, ![2, 1, 64, 256]⟩
abbrev S2x1x64 : Shape := ⟨3, ![2, 1, 64]⟩
abbrev S2x1x64x1 : Shape := ⟨4, ![2, 1, 64, 1]⟩
abbrev S128x256 : Shape := ⟨2, ![128, 256]⟩
abbrev S128 : Shape := ⟨1, ![128]⟩
abbrev S128x1 : Shape := ⟨2, ![128, 1]⟩
abbrev S1x256 : Shape := ⟨2, ![1, 256]⟩
abbrev S2x1x8x8x256 : Shape := ⟨5, ![2, 1, 8, 8, 256]⟩
abbrev S2x1x256x8x8 : Shape := ⟨5, ![2, 1, 256, 8, 8]⟩
abbrev S511 : Shape := ⟨1, ![511]⟩
abbrev S512 : Shape := ⟨1, ![512]⟩
abbrev S2x512x512 : Shape := ⟨3, ![2, 512, 512]⟩
abbrev S2x256x8x8 : Shape := ⟨4, ![2, 256, 8, 8]⟩
abbrev S6 : Shape := ⟨1, ![6]⟩
abbrev S2x512x512x1 : Shape := ⟨4, ![2, 512, 512, 1]⟩
abbrev S1x1x1x6 : Shape := ⟨4, ![1, 1, 1, 6]⟩
abbrev S2x512x512x6 : Shape := ⟨4, ![2, 512, 512, 6]⟩
abbrev S512x1 : Shape := ⟨2, ![512, 1]⟩
abbrev S1x6 : Shape := ⟨2, ![1, 6]⟩
abbrev S512x6 : Shape := ⟨2, ![512, 6]⟩
abbrev S2x512x512x6x1x1 : Shape := ⟨6, ![2, 512, 512, 6, 1, 1]⟩
abbrev S1x512x1x1x6x1 : Shape := ⟨6, ![1, 512, 1, 1, 6, 1]⟩
abbrev S2x512x512x6x6x1 : Shape := ⟨6, ![2, 512, 512, 6, 6, 1]⟩
abbrev S1x1x512x1x1x6 : Shape := ⟨6, ![1, 1, 512, 1, 1, 6]⟩
abbrev S2x512x512x6x6x6 : Shape := ⟨6, ![2, 512, 512, 6, 6, 6]⟩
abbrev S2x16384 : Shape := ⟨2, ![2, 16384]⟩
abbrev S2x512x512x6x6x6x1 : Shape := ⟨7, ![2, 512, 512, 6, 6, 6, 1]⟩

abbrev nBuf : Space → Nat
  | .hbm => 580
  | .vmem => 0
  | .smem => 0
  | _ => 0

abbrev hbmTy0_0 (i : Nat) : BufTy := match i % 128 with
  | 0 => ⟨S2x1x512x512, .f32⟩
  | 1 => ⟨S2x1x8x64x8x64, .f32⟩
  | 2 => ⟨S2x1x8x8x64x64, .f32⟩
  | 3 => ⟨S2x1x64x4096, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S255, .f32⟩
  | 12 => ⟨S_, .f32⟩
  | 13 => ⟨S255, .f32⟩
  | 14 => ⟨S255, .f32⟩
  | 15 => ⟨S1, .f32⟩
  | 16 => ⟨S_, .f32⟩
  | 17 => ⟨S255, .f32⟩
  | 18 => ⟨S255, .f32⟩
  | 19 => ⟨S255, .f32⟩
  | 20 => ⟨S255, .f32⟩
  | 21 => ⟨S1, .f32⟩
  | 22 => ⟨S255, .f32⟩
  | 23 => ⟨S255, .f32⟩
  | 24 => ⟨S255, .f32⟩
  | 25 => ⟨S1, .f32⟩
  | 26 => ⟨S256, .f32⟩
  | 27 => ⟨S_, .f32⟩
  | 28 => ⟨S_, .f32⟩
  | 29 => ⟨S_, .f32⟩
  | 30 => ⟨S2x1x64x4096x1, .f32⟩
  | 31 => ⟨S1x1x1x1x256, .f32⟩
  | 32 => ⟨S2x1x64x4096x256, .f32⟩
  | 33 => ⟨S2x1x64x4096x256, .f32⟩
  | 34 => ⟨S2x1x64x4096x256, .f32⟩
  | 35 => ⟨S2x1x64x4096x256, .f32⟩
  | 36 => ⟨S2x1x64x4096x256, .f32⟩
  | 37 => ⟨S2x1x64x4096x256, .f32⟩
  | 38 => ⟨S_, .f32⟩
  | 39 => ⟨S2x1x64x4096x256, .f32⟩
  | 40 => ⟨S2x1x64x4096x256, .f32⟩
  | 41 => ⟨S2x1x64x4096x256, .f32⟩
  | 42 => ⟨S_, .f32⟩
  | 43 => ⟨S2x1x64x256, .f32⟩
  | 44 => ⟨S_, .f32⟩
  | 45 => ⟨S2x1x64x256, .f32⟩
  | 46 => ⟨S2x1x64x256, .f32⟩
  | 47 => ⟨S_, .f32⟩
  | 48 => ⟨S2x1x64, .f32⟩
  | 49 => ⟨S2x1x64x1, .f32⟩
  | 50 => ⟨S_, .f32⟩
  | 51 => ⟨S2x1x64x1, .f32⟩
  | 52 => ⟨S2x1x64x1, .f32⟩
  | 53 => ⟨S2x1x64x256, .f32⟩
  | 54 => ⟨S2x1x64x256, .f32⟩
  | 55 => ⟨S_, .f32⟩
  | 56 => ⟨S2x1x64x256, .f32⟩
  | 57 => ⟨S2x1x64x256, .f32⟩
  | 58 => ⟨S128x256, .f32⟩
  | 59 => ⟨S_, .f32⟩
  | 60 => ⟨S128x256, .f32⟩
  | 61 => ⟨S128x256, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S128, .f32⟩
  | 71 => ⟨S_, .f32⟩
  | 72 => ⟨S128, .f32⟩
  | 73 => ⟨S128, .i1⟩
  | 74 => ⟨S_, .f32⟩
  | 75 => ⟨S128, .f32⟩
  | 76 => ⟨S128, .i1⟩
  | 77 => ⟨S_, .f32⟩
  | 78 => ⟨S_, .i1⟩
  | 79 => ⟨S128, .i1⟩
  | 80 => ⟨S128, .i1⟩
  | 81 => ⟨S128, .i1⟩
  | 82 => ⟨S128, .f32⟩
  | 83 => ⟨S128, .f32⟩
  | 84 => ⟨S128, .f32⟩
  | 85 => ⟨S128, .f32⟩
  | 86 => ⟨S_, .f32⟩
  | 87 => ⟨S128, .f32⟩
  | 88 => ⟨S128, .f32⟩
  | 89 => ⟨S128x1, .f32⟩
  | 90 => ⟨S128x256, .f32⟩
  | 91 => ⟨S128x256, .f32⟩
  | 92 => ⟨S256, .i32⟩
  | 93 => ⟨S128x1, .f32⟩
  | 94 => ⟨S256, .f32⟩
  | 95 => ⟨S1x256, .f32⟩
  | 96 => ⟨S128x256, .f32⟩
  | 97 => ⟨S128x256, .f32⟩
  | 98 => ⟨S128x256, .i1⟩
  | 99 => ⟨S128x256, .f32⟩
  | 100 => ⟨S128x256, .f32⟩
  | 101 => ⟨S_, .f32⟩
  | 102 => ⟨S_, .f32⟩
  | 103 => ⟨S128x256, .f32⟩
  | 104 => ⟨S_, .f32⟩
  | 105 => ⟨S128x256, .f32⟩
  | 106 => ⟨S128x256, .f32⟩
  | 107 => ⟨S_, .f32⟩
  | 108 => ⟨S128x256, .f32⟩
  | 109 => ⟨S128x256, .f32⟩
  | 110 => ⟨S_, .f32⟩
  | 111 => ⟨S_, .i32⟩
  | 112 => ⟨S_, .f32⟩
  | 113 => ⟨S128x256, .f32⟩
  | 114 => ⟨S128x256, .f32⟩
  | 115 => ⟨S_, .f32⟩
  | 116 => ⟨S128x256, .f32⟩
  | 117 => ⟨S128x256, .f32⟩
  | 118 => ⟨S2x1x8x8x256, .f32⟩
  | 119 => ⟨S2x1x256x8x8, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S511, .f32⟩
  | _ => ⟨S2x1x512x512, .f32⟩

abbrev hbmTy0_1 (i : Nat) : BufTy := match i % 128 with
  | 0 => ⟨S_, .f32⟩
  | 1 => ⟨S511, .f32⟩
  | 2 => ⟨S511, .f32⟩
  | 3 => ⟨S1, .f32⟩
  | 4 => ⟨S_, .f32⟩
  | 5 => ⟨S511, .f32⟩
  | 6 => ⟨S511, .f32⟩
  | 7 => ⟨S511, .f32⟩
  | 8 => ⟨S511, .f32⟩
  | 9 => ⟨S1, .f32⟩
  | 10 => ⟨S511, .f32⟩
  | 11 => ⟨S511, .f32⟩
  | 12 => ⟨S511, .f32⟩
  | 13 => ⟨S1, .f32⟩
  | 14 => ⟨S512, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S511, .f32⟩
  | 23 => ⟨S_, .f32⟩
  | 24 => ⟨S511, .f32⟩
  | 25 => ⟨S511, .f32⟩
  | 26 => ⟨S1, .f32⟩
  | 27 => ⟨S_, .f32⟩
  | 28 => ⟨S511, .f32⟩
  | 29 => ⟨S511, .f32⟩
  | 30 => ⟨S511, .f32⟩
  | 31 => ⟨S511, .f32⟩
  | 32 => ⟨S1, .f32⟩
  | 33 => ⟨S511, .f32⟩
  | 34 => ⟨S511, .f32⟩
  | 35 => ⟨S511, .f32⟩
  | 36 => ⟨S1, .f32⟩
  | 37 => ⟨S512, .f32⟩
  | 38 => ⟨S2x512x512, .f32⟩
  | 39 => ⟨S_, .f32⟩
  | 40 => ⟨S2x512x512, .f32⟩
  | 41 => ⟨S2x512x512, .f32⟩
  | 42 => ⟨S2x256x8x8, .f32⟩
  | 43 => ⟨S6, .i32⟩
  | 44 => ⟨S_, .i32⟩
  | 45 => ⟨S6, .i32⟩
  | 46 => ⟨S6, .i32⟩
  | 47 => ⟨S2x512x512, .f32⟩
  | 48 => ⟨S2x512x512, .i32⟩
  | 49 => ⟨S2x512x512x1, .i32⟩
  | 50 => ⟨S1x1x1x6, .i32⟩
  | 51 => ⟨S2x512x512x6, .i32⟩
  | 52 => ⟨S2x512x512x6, .i32⟩
  | 53 => ⟨S2x512x512x6, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S2x512x512x6, .i32⟩
  | 61 => ⟨S2x512x512x6, .i32⟩
  | 62 => ⟨S_, .i32⟩
  | 63 => ⟨S2x512x512x6, .i32⟩
  | 64 => ⟨S2x512x512x6, .i1⟩
  | 65 => ⟨S_, .i32⟩
  | 66 => ⟨S2x512x512x6, .i32⟩
  | 67 => ⟨S2x512x512x6, .i1⟩
  | 68 => ⟨S_, .i32⟩
  | 69 => ⟨S_, .i1⟩
  | 70 => ⟨S2x512x512x6, .i1⟩
  | 71 => ⟨S2x512x512x6, .i1⟩
  | 72 => ⟨S2x512x512x6, .i1⟩
  | 73 => ⟨S2x512x512x6, .i32⟩
  | 74 => ⟨S2x512x512x6, .i32⟩
  | 75 => ⟨S2x512x512x6, .i32⟩
  | 76 => ⟨S_, .i32⟩
  | 77 => ⟨S2x512x512x6, .i32⟩
  | 78 => ⟨S2x512x512x6, .i1⟩
  | 79 => ⟨S_, .i32⟩
  | 80 => ⟨S2x512x512x6, .i32⟩
  | 81 => ⟨S2x512x512x6, .i32⟩
  | 82 => ⟨S2x512x512x6, .i32⟩
  | 83 => ⟨S2x512x512x1, .f32⟩
  | 84 => ⟨S2x512x512x6, .f32⟩
  | 85 => ⟨S2x512x512x6, .f32⟩
  | 86 => ⟨S2x512x512x6, .f32⟩
  | 87 => ⟨S2x512x512x6, .f32⟩
  | 88 => ⟨S2x512x512x6, .f32⟩
  | 89 => ⟨S2x512x512x6, .f32⟩
  | 90 => ⟨S_, .f32⟩
  | 91 => ⟨S2x512x512x6, .f32⟩
  | 92 => ⟨S2x512x512x6, .f32⟩
  | 93 => ⟨S_, .f32⟩
  | 94 => ⟨S2x512x512x6, .f32⟩
  | 95 => ⟨S2x512x512x6, .f32⟩
  | 96 => ⟨S_, .f32⟩
  | 97 => ⟨S2x512x512x6, .f32⟩
  | 98 => ⟨S2x512x512x6, .f32⟩
  | 99 => ⟨S2x512x512x6, .f32⟩
  | 100 => ⟨S2x512x512x6, .f32⟩
  | 101 => ⟨S_, .f32⟩
  | 102 => ⟨S2x512x512x6, .f32⟩
  | 103 => ⟨S2x512x512x6, .f32⟩
  | 104 => ⟨S2x512x512x6, .f32⟩
  | 105 => ⟨S_, .f32⟩
  | 106 => ⟨S2x512x512x6, .f32⟩
  | 107 => ⟨S2x512x512x6, .f32⟩
  | 108 => ⟨S_, .f32⟩
  | 109 => ⟨S2x512x512x6, .f32⟩
  | 110 => ⟨S2x512x512x6, .f32⟩
  | 111 => ⟨S_, .f32⟩
  | 112 => ⟨S2x512x512x6, .f32⟩
  | 113 => ⟨S2x512x512x6, .f32⟩
  | 114 => ⟨S_, .f32⟩
  | 115 => ⟨S2x512x512x6, .f32⟩
  | 116 => ⟨S2x512x512x6, .f32⟩
  | 117 => ⟨S_, .f32⟩
  | 118 => ⟨S2x512x512x6, .f32⟩
  | 119 => ⟨S2x512x512x6, .f32⟩
  | 120 => ⟨S2x512x512x6, .f32⟩
  | 121 => ⟨S_, .f32⟩
  | 122 => ⟨S2x512x512x6, .f32⟩
  | 123 => ⟨S2x512x512x6, .f32⟩
  | 124 => ⟨S2x512x512x6, .f32⟩
  | 125 => ⟨S_, .f32⟩
  | 126 => ⟨S2x512x512x6, .f32⟩
  | 127 => ⟨S2x512x512x6, .f32⟩
  | _ => ⟨S2x1x512x512, .f32⟩

abbrev hbmTy0_2 (i : Nat) : BufTy := match i % 128 with
  | 0 => ⟨S2x512x512x6, .f32⟩
  | 1 => ⟨S_, .f32⟩
  | 2 => ⟨S2x512x512x6, .f32⟩
  | 3 => ⟨S2x512x512x6, .f32⟩
  | 4 => ⟨S_, .f32⟩
  | 5 => ⟨S2x512x512x6, .f32⟩
  | 6 => ⟨S2x512x512x6, .f32⟩
  | 7 => ⟨S2x512x512x6, .f32⟩
  | 8 => ⟨S2x512x512x6, .f32⟩
  | 9 => ⟨S_, .f32⟩
  | 10 => ⟨S2x512x512x6, .f32⟩
  | 11 => ⟨S2x512x512x6, .f32⟩
  | 12 => ⟨S2x512x512x6, .f32⟩
  | 13 => ⟨S_, .f32⟩
  | 14 => ⟨S2x512x512x6, .f32⟩
  | 15 => ⟨S2x512x512x6, .f32⟩
  | 16 => ⟨S2x512x512x6, .f32⟩
  | 17 => ⟨S2x512x512x6, .f32⟩
  | 18 => ⟨S2x512x512x6, .f32⟩
  | 19 => ⟨S_, .f32⟩
  | 20 => ⟨S2x512x512x6, .f32⟩
  | 21 => ⟨S2x512x512x6, .f32⟩
  | 22 => ⟨S_, .f32⟩
  | 23 => ⟨S2x512x512x6, .f32⟩
  | 24 => ⟨S2x512x512x6, .i1⟩
  | 25 => ⟨S_, .f32⟩
  | 26 => ⟨S2x512x512x6, .f32⟩
  | 27 => ⟨S2x512x512x6, .i1⟩
  | 28 => ⟨S_, .f32⟩
  | 29 => ⟨S2x512x512x6, .f32⟩
  | 30 => ⟨S2x512x512x6, .i1⟩
  | 31 => ⟨S_, .f32⟩
  | 32 => ⟨S_, .f32⟩
  | 33 => ⟨S2x512x512x6, .f32⟩
  | 34 => ⟨S2x512x512x6, .f32⟩
  | 35 => ⟨S2x512x512x6, .f32⟩
  | 36 => ⟨S2x512x512x6, .f32⟩
  | 37 => ⟨S512, .f32⟩
  | 38 => ⟨S512, .i32⟩
  | 39 => ⟨S512x1, .i32⟩
  | 40 => ⟨S1x6, .i32⟩
  | 41 => ⟨S512x6, .i32⟩
  | 42 => ⟨S512x6, .i32⟩
  | 43 => ⟨S512x6, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S512x6, .i32⟩
  | 51 => ⟨S512x6, .i32⟩
  | 52 => ⟨S_, .i32⟩
  | 53 => ⟨S512x6, .i32⟩
  | 54 => ⟨S512x6, .i1⟩
  | 55 => ⟨S_, .i32⟩
  | 56 => ⟨S512x6, .i32⟩
  | 57 => ⟨S512x6, .i1⟩
  | 58 => ⟨S_, .i32⟩
  | 59 => ⟨S_, .i1⟩
  | 60 => ⟨S512x6, .i1⟩
  | 61 => ⟨S512x6, .i1⟩
  | 62 => ⟨S512x6, .i1⟩
  | 63 => ⟨S512x6, .i32⟩
  | 64 => ⟨S512x6, .i32⟩
  | 65 => ⟨S512x6, .i32⟩
  | 66 => ⟨S_, .i32⟩
  | 67 => ⟨S512x6, .i32⟩
  | 68 => ⟨S512x6, .i1⟩
  | 69 => ⟨S_, .i32⟩
  | 70 => ⟨S512x6, .i32⟩
  | 71 => ⟨S512x6, .i32⟩
  | 72 => ⟨S512x6, .i32⟩
  | 73 => ⟨S512x1, .f32⟩
  | 74 => ⟨S512x6, .f32⟩
  | 75 => ⟨S512x6, .f32⟩
  | 76 => ⟨S512x6, .f32⟩
  | 77 => ⟨S512x6, .f32⟩
  | 78 => ⟨S512x6, .f32⟩
  | 79 => ⟨S512x6, .f32⟩
  | 80 => ⟨S_, .f32⟩
  | 81 => ⟨S512x6, .f32⟩
  | 82 => ⟨S512x6, .f32⟩
  | 83 => ⟨S_, .f32⟩
  | 84 => ⟨S512x6, .f32⟩
  | 85 => ⟨S512x6, .f32⟩
  | 86 => ⟨S_, .f32⟩
  | 87 => ⟨S512x6, .f32⟩
  | 88 => ⟨S512x6, .f32⟩
  | 89 => ⟨S512x6, .f32⟩
  | 90 => ⟨S512x6, .f32⟩
  | 91 => ⟨S_, .f32⟩
  | 92 => ⟨S512x6, .f32⟩
  | 93 => ⟨S512x6, .f32⟩
  | 94 => ⟨S512x6, .f32⟩
  | 95 => ⟨S_, .f32⟩
  | 96 => ⟨S512x6, .f32⟩
  | 97 => ⟨S512x6, .f32⟩
  | 98 => ⟨S_, .f32⟩
  | 99 => ⟨S512x6, .f32⟩
  | 100 => ⟨S512x6, .f32⟩
  | 101 => ⟨S_, .f32⟩
  | 102 => ⟨S512x6, .f32⟩
  | 103 => ⟨S512x6, .f32⟩
  | 104 => ⟨S_, .f32⟩
  | 105 => ⟨S512x6, .f32⟩
  | 106 => ⟨S512x6, .f32⟩
  | 107 => ⟨S_, .f32⟩
  | 108 => ⟨S512x6, .f32⟩
  | 109 => ⟨S512x6, .f32⟩
  | 110 => ⟨S512x6, .f32⟩
  | 111 => ⟨S_, .f32⟩
  | 112 => ⟨S512x6, .f32⟩
  | 113 => ⟨S512x6, .f32⟩
  | 114 => ⟨S512x6, .f32⟩
  | 115 => ⟨S_, .f32⟩
  | 116 => ⟨S512x6, .f32⟩
  | 117 => ⟨S512x6, .f32⟩
  | 118 => ⟨S512x6, .f32⟩
  | 119 => ⟨S_, .f32⟩
  | 120 => ⟨S512x6, .f32⟩
  | 121 => ⟨S512x6, .f32⟩
  | 122 => ⟨S_, .f32⟩
  | 123 => ⟨S512x6, .f32⟩
  | 124 => ⟨S512x6, .f32⟩
  | 125 => ⟨S512x6, .f32⟩
  | 126 => ⟨S512x6, .f32⟩
  | 127 => ⟨S_, .f32⟩
  | _ => ⟨S2x1x512x512, .f32⟩

abbrev hbmTy0_3 (i : Nat) : BufTy := match i % 128 with
  | 0 => ⟨S512x6, .f32⟩
  | 1 => ⟨S512x6, .f32⟩
  | 2 => ⟨S512x6, .f32⟩
  | 3 => ⟨S_, .f32⟩
  | 4 => ⟨S512x6, .f32⟩
  | 5 => ⟨S512x6, .f32⟩
  | 6 => ⟨S512x6, .f32⟩
  | 7 => ⟨S512x6, .f32⟩
  | 8 => ⟨S512x6, .f32⟩
  | 9 => ⟨S_, .f32⟩
  | 10 => ⟨S512x6, .f32⟩
  | 11 => ⟨S512x6, .f32⟩
  | 12 => ⟨S_, .f32⟩
  | 13 => ⟨S512x6, .f32⟩
  | 14 => ⟨S512x6, .i1⟩
  | 15 => ⟨S_, .f32⟩
  | 16 => ⟨S512x6, .f32⟩
  | 17 => ⟨S512x6, .i1⟩
  | 18 => ⟨S_, .f32⟩
  | 19 => ⟨S512x6, .f32⟩
  | 20 => ⟨S512x6, .i1⟩
  | 21 => ⟨S_, .f32⟩
  | 22 => ⟨S_, .f32⟩
  | 23 => ⟨S512x6, .f32⟩
  | 24 => ⟨S512x6, .f32⟩
  | 25 => ⟨S512x6, .f32⟩
  | 26 => ⟨S512x6, .f32⟩
  | 27 => ⟨S512, .f32⟩
  | 28 => ⟨S512, .i32⟩
  | 29 => ⟨S512x1, .i32⟩
  | 30 => ⟨S1x6, .i32⟩
  | 31 => ⟨S512x6, .i32⟩
  | 32 => ⟨S512x6, .i32⟩
  | 33 => ⟨S512x6, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S512x6, .i32⟩
  | 41 => ⟨S512x6, .i32⟩
  | 42 => ⟨S_, .i32⟩
  | 43 => ⟨S512x6, .i32⟩
  | 44 => ⟨S512x6, .i1⟩
  | 45 => ⟨S_, .i32⟩
  | 46 => ⟨S512x6, .i32⟩
  | 47 => ⟨S512x6, .i1⟩
  | 48 => ⟨S_, .i32⟩
  | 49 => ⟨S_, .i1⟩
  | 50 => ⟨S512x6, .i1⟩
  | 51 => ⟨S512x6, .i1⟩
  | 52 => ⟨S512x6, .i1⟩
  | 53 => ⟨S512x6, .i32⟩
  | 54 => ⟨S512x6, .i32⟩
  | 55 => ⟨S512x6, .i32⟩
  | 56 => ⟨S_, .i32⟩
  | 57 => ⟨S512x6, .i32⟩
  | 58 => ⟨S512x6, .i1⟩
  | 59 => ⟨S_, .i32⟩
  | 60 => ⟨S512x6, .i32⟩
  | 61 => ⟨S512x6, .i32⟩
  | 62 => ⟨S512x6, .i32⟩
  | 63 => ⟨S512x1, .f32⟩
  | 64 => ⟨S512x6, .f32⟩
  | 65 => ⟨S512x6, .f32⟩
  | 66 => ⟨S512x6, .f32⟩
  | 67 => ⟨S512x6, .f32⟩
  | 68 => ⟨S512x6, .f32⟩
  | 69 => ⟨S512x6, .f32⟩
  | 70 => ⟨S_, .f32⟩
  | 71 => ⟨S512x6, .f32⟩
  | 72 => ⟨S512x6, .f32⟩
  | 73 => ⟨S_, .f32⟩
  | 74 => ⟨S512x6, .f32⟩
  | 75 => ⟨S512x6, .f32⟩
  | 76 => ⟨S_, .f32⟩
  | 77 => ⟨S512x6, .f32⟩
  | 78 => ⟨S512x6, .f32⟩
  | 79 => ⟨S512x6, .f32⟩
  | 80 => ⟨S512x6, .f32⟩
  | 81 => ⟨S_, .f32⟩
  | 82 => ⟨S512x6, .f32⟩
  | 83 => ⟨S512x6, .f32⟩
  | 84 => ⟨S512x6, .f32⟩
  | 85 => ⟨S_, .f32⟩
  | 86 => ⟨S512x6, .f32⟩
  | 87 => ⟨S512x6, .f32⟩
  | 88 => ⟨S_, .f32⟩
  | 89 => ⟨S512x6, .f32⟩
  | 90 => ⟨S512x6, .f32⟩
  | 91 => ⟨S_, .f32⟩
  | 92 => ⟨S512x6, .f32⟩
  | 93 => ⟨S512x6, .f32⟩
  | 94 => ⟨S_, .f32⟩
  | 95 => ⟨S512x6, .f32⟩
  | 96 => ⟨S512x6, .f32⟩
  | 97 => ⟨S_, .f32⟩
  | 98 => ⟨S512x6, .f32⟩
  | 99 => ⟨S512x6, .f32⟩
  | 100 => ⟨S512x6, .f32⟩
  | 101 => ⟨S_, .f32⟩
  | 102 => ⟨S512x6, .f32⟩
  | 103 => ⟨S512x6, .f32⟩
  | 104 => ⟨S512x6, .f32⟩
  | 105 => ⟨S_, .f32⟩
  | 106 => ⟨S512x6, .f32⟩
  | 107 => ⟨S512x6, .f32⟩
  | 108 => ⟨S512x6, .f32⟩
  | 109 => ⟨S_, .f32⟩
  | 110 => ⟨S512x6, .f32⟩
  | 111 => ⟨S512x6, .f32⟩
  | 112 => ⟨S_, .f32⟩
  | 113 => ⟨S512x6, .f32⟩
  | 114 => ⟨S512x6, .f32⟩
  | 115 => ⟨S512x6, .f32⟩
  | 116 => ⟨S512x6, .f32⟩
  | 117 => ⟨S_, .f32⟩
  | 118 => ⟨S512x6, .f32⟩
  | 119 => ⟨S512x6, .f32⟩
  | 120 => ⟨S512x6, .f32⟩
  | 121 => ⟨S_, .f32⟩
  | 122 => ⟨S512x6, .f32⟩
  | 123 => ⟨S512x6, .f32⟩
  | 124 => ⟨S512x6, .f32⟩
  | 125 => ⟨S512x6, .f32⟩
  | 126 => ⟨S512x6, .f32⟩
  | 127 => ⟨S_, .f32⟩
  | _ => ⟨S2x1x512x512, .f32⟩

abbrev hbmTy0_4 (i : Nat) : BufTy := match i % 128 with
  | 0 => ⟨S512x6, .f32⟩
  | 1 => ⟨S512x6, .f32⟩
  | 2 => ⟨S_, .f32⟩
  | 3 => ⟨S512x6, .f32⟩
  | 4 => ⟨S512x6, .i1⟩
  | 5 => ⟨S_, .f32⟩
  | 6 => ⟨S512x6, .f32⟩
  | 7 => ⟨S512x6, .i1⟩
  | 8 => ⟨S_, .f32⟩
  | 9 => ⟨S512x6, .f32⟩
  | 10 => ⟨S512x6, .i1⟩
  | 11 => ⟨S_, .f32⟩
  | 12 => ⟨S_, .f32⟩
  | 13 => ⟨S512x6, .f32⟩
  | 14 => ⟨S512x6, .f32⟩
  | 15 => ⟨S512x6, .f32⟩
  | 16 => ⟨S512x6, .f32⟩
  | 17 => ⟨S2x512x512x6x1x1, .i32⟩
  | 18 => ⟨S_, .i32⟩
  | 19 => ⟨S2x512x512x6x1x1, .i32⟩
  | 20 => ⟨S2x512x512x6x1x1, .i32⟩
  | 21 => ⟨S1x512x1x1x6x1, .i32⟩
  | 22 => ⟨S2x512x512x6x6x1, .i32⟩
  | 23 => ⟨S2x512x512x6x6x1, .i32⟩
  | 24 => ⟨S2x512x512x6x6x1, .i32⟩
  | 25 => ⟨S_, .i32⟩
  | 26 => ⟨S2x512x512x6x6x1, .i32⟩
  | 27 => ⟨S2x512x512x6x6x1, .i32⟩
  | 28 => ⟨S1x1x512x1x1x6, .i32⟩
  | 29 => ⟨S2x512x512x6x6x6, .i32⟩
  | 30 => ⟨S2x512x512x6x6x6, .i32⟩
  | 31 => ⟨S2x512x512x6x6x6, .i32⟩
  | 32 => ⟨S2x16384, .f32⟩
  | 33 => ⟨S_, .i32⟩
  | 34 => ⟨S2x512x512x6x6x6, .i32⟩
  | 35 => ⟨S2x512x512x6x6x6, .i1⟩
  | 36 => ⟨S_, .i32⟩
  | 37 => ⟨S2x512x512x6x6x6, .i32⟩
  | 38 => ⟨S2x512x512x6x6x6, .i32⟩
  | 39 => ⟨S2x512x512x6x6x6, .i32⟩
  | 40 => ⟨S2x512x512x6x6x6x1, .i32⟩
  | 41 => ⟨S2x512x512x6x6x6, .f32⟩
  | 42 => ⟨S2x512x512x6x1x1, .f32⟩
  | 43 => ⟨S1x512x1x1x6x1, .f32⟩
  | 44 => ⟨S2x512x512x6x6x1, .f32⟩
  | 45 => ⟨S2x512x512x6x6x1, .f32⟩
  | 46 => ⟨S2x512x512x6x6x1, .f32⟩
  | 47 => ⟨S1x1x512x1x1x6, .f32⟩
  | 48 => ⟨S2x512x512x6x6x6, .f32⟩
  | 49 => ⟨S2x512x512x6x6x6, .f32⟩
  | 50 => ⟨S2x512x512x6x6x6, .f32⟩
  | 51 => ⟨S2x512x512x6x6x6, .f32⟩
  | 52 => ⟨S_, .f32⟩
  | 53 => ⟨S2x512x512, .f32⟩
  | 54 => ⟨S2x1x512x512, .f32⟩
  | 55 => ⟨S_, .f32⟩
  | 56 => ⟨S_, .f32⟩
  | 57 => ⟨S2x1x512x512, .f32⟩
  | 58 => ⟨S2x1x512x512, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S2x1x512x512, .f32⟩
  | 67 => ⟨S2x1x512x512, .f32⟩
  | _ => ⟨S2x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x1x512x512, .f32⟩

abbrev bufTy : (tb : Table) → Fin (tcTables nBuf tb) → BufTy
  | .hbm, ⟨i, _⟩ => hbmTy i
  | _, _ => ⟨S2x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v3 : Ref sig .tc := ⟨.hbm, 26, rfl⟩
abbrev main_cst_1 : Ref sig .tc := ⟨.hbm, 27, rfl⟩
abbrev main_cst_2 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_4 : Ref sig .tc := ⟨.hbm, 42, rfl⟩
abbrev main_v16 : Ref sig .tc := ⟨.hbm, 43, rfl⟩
abbrev main_cst_5 : Ref sig .tc := ⟨.hbm, 44, rfl⟩
abbrev main_v17 : Ref sig .tc := ⟨.hbm, 45, rfl⟩
abbrev main_v18 : Ref sig .tc := ⟨.hbm, 46, rfl⟩
abbrev main_cst_6 : Ref sig .tc := ⟨.hbm, 47, rfl⟩
abbrev main_v19 : Ref sig .tc := ⟨.hbm, 48, rfl⟩
abbrev main_v20 : Ref sig .tc := ⟨.hbm, 49, rfl⟩
abbrev main_cst_7 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_9 : Ref sig .tc := ⟨.hbm, 59, rfl⟩
abbrev main_v28 : Ref sig .tc := ⟨.hbm, 60, rfl⟩
abbrev main_v29 : Ref sig .tc := ⟨.hbm, 61, rfl⟩
abbrev main_cst_10 : Ref sig .tc := ⟨.hbm, 62, rfl⟩
abbrev main_v30 : Ref sig .tc := ⟨.hbm, 63, rfl⟩
abbrev main_cst_11 : Ref sig .tc := ⟨.hbm, 64, rfl⟩
abbrev main_v31 : Ref sig .tc := ⟨.hbm, 65, rfl⟩
abbrev main_v32 : Ref sig .tc := ⟨.hbm, 66, rfl⟩
abbrev main_c : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_cst : Ref sig .tc := ⟨.hbm, 71, rfl⟩
abbrev main_call1_v3 : Ref sig .tc := ⟨.hbm, 72, rfl⟩
abbrev main_call1_v4 : Ref sig .tc := ⟨.hbm, 73, rfl⟩
abbrev main_call1_cst_0 : Ref sig .tc := ⟨.hbm, 74, rfl⟩
abbrev main_call1_v5 : Ref sig .tc := ⟨.hbm, 75, rfl⟩
abbrev main_call1_v6 : Ref sig .tc := ⟨.hbm, 76, rfl⟩
abbrev main_call1_cst_1 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_v12 : Ref sig .tc := ⟨.hbm, 83, rfl⟩
abbrev main_v33 : Ref sig .tc := ⟨.hbm, 84, rfl⟩
abbrev main_v34 : Ref sig .tc := ⟨.hbm, 85, rfl⟩
abbrev main_cst_12 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_call2_call0_cst : Ref sig .tc := ⟨.hbm, 101, rfl⟩
abbrev main_call2_call0_v0 : Ref sig .tc := ⟨.hbm, 102, rfl⟩
abbrev main_v49 : Ref sig .tc := ⟨.hbm, 103, rfl⟩
abbrev main_cst_13 : Ref sig .tc := ⟨.hbm, 104, rfl⟩
abbrev main_v50 : Ref sig .tc := ⟨.hbm, 105, rfl⟩
abbrev main_v51 : Ref sig .tc := ⟨.hbm, 106, rfl⟩
abbrev main_cst_14 : Ref sig .tc := ⟨.hbm, 107, rfl⟩
abbrev main_v52 : Ref sig .tc := ⟨.hbm, 108, rfl⟩
abbrev main_v53 : Ref sig .tc := ⟨.hbm, 109, rfl⟩
abbrev main_cst_15 : Ref sig .tc := ⟨.hbm, 110, rfl⟩
abbrev main_c_16 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_17 : Ref sig .tc := ⟨.hbm, 120, rfl⟩
abbrev main_cst_18 : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_cst : Ref sig .tc := ⟨.hbm, 125, rfl⟩
abbrev main_call4_v3 : Ref sig .tc := ⟨.hbm, 126, rfl⟩
abbrev main_call4_v4 : Ref sig .tc := ⟨.hbm, 127, rfl⟩
abbrev main_call4_cst_0 : Ref sig .tc := ⟨.hbm, 128, rfl⟩
abbrev main_call4_v5 : Ref sig .tc := ⟨.hbm, 129, rfl⟩
abbrev main_call4_v6 : Ref sig .tc := ⟨.hbm, 130, rfl⟩
abbrev main_call4_v7 : Ref sig .tc := ⟨.hbm, 131, rfl⟩
abbrev main_call4_cst_1 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_v12 : Ref sig .tc := ⟨.hbm, 137, rfl⟩
abbrev main_call4_v13 : Ref sig .tc := ⟨.hbm, 138, rfl⟩
abbrev main_call4_v14 : Ref sig .tc := ⟨.hbm, 139, rfl⟩
abbrev main_call4_v15 : Ref sig .tc := ⟨.hbm, 140, rfl⟩
abbrev main_call4_v16 : Ref sig .tc := ⟨.hbm, 141, rfl⟩
abbrev main_v57 : Ref sig .tc := ⟨.hbm, 142, rfl⟩
abbrev main_cst_19 : Ref sig .tc := ⟨.hbm, 143, rfl⟩
abbrev main_cst_20 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_call5_cst : Ref sig .tc := ⟨.hbm, 148, rfl⟩
abbrev main_call5_v3 : Ref sig .tc := ⟨.hbm, 149, rfl⟩
abbrev main_call5_v4 : Ref sig .tc := ⟨.hbm, 150, rfl⟩
abbrev main_call5_cst_0 : Ref sig .tc := ⟨.hbm, 151, rfl⟩
abbrev main_call5_v5 : Ref sig .tc := ⟨.hbm, 152, rfl⟩
abbrev main_call5_v6 : Ref sig .tc := ⟨.hbm, 153, rfl⟩
abbrev main_call5_v7 : Ref sig .tc := ⟨.hbm, 154, rfl⟩
abbrev main_call5_cst_1 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_v12 : Ref sig .tc := ⟨.hbm, 160, rfl⟩
abbrev main_call5_v13 : Ref sig .tc := ⟨.hbm, 161, rfl⟩
abbrev main_call5_v14 : Ref sig .tc := ⟨.hbm, 162, rfl⟩
abbrev main_call5_v15 : Ref sig .tc := ⟨.hbm, 163, rfl⟩
abbrev main_call5_v16 : Ref sig .tc := ⟨.hbm, 164, rfl⟩
abbrev main_v58 : Ref sig .tc := ⟨.hbm, 165, rfl⟩
abbrev main_v59 : Ref sig .tc := ⟨.hbm, 166, rfl⟩
abbrev main_cst_21 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63 : Ref sig .tc := ⟨.hbm, 171, rfl⟩
abbrev main_c_22 : Ref sig .tc := ⟨.hbm, 172, rfl⟩
abbrev main_v64 : Ref sig .tc := ⟨.hbm, 173, rfl⟩
abbrev main_v65 : Ref sig .tc := ⟨.hbm, 174, rfl⟩
abbrev main_v66 : Ref sig .tc := ⟨.hbm, 175, rfl⟩
abbrev main_v67 : Ref sig .tc := ⟨.hbm, 176, rfl⟩
abbrev main_v68 : Ref sig .tc := ⟨.hbm, 177, rfl⟩
abbrev main_v69 : Ref sig .tc := ⟨.hbm, 178, rfl⟩
abbrev main_v70 : Ref sig .tc := ⟨.hbm, 179, rfl⟩
abbrev main_v71 : Ref sig .tc := ⟨.hbm, 180, rfl⟩
abbrev main_v72 : Ref sig .tc := ⟨.hbm, 181, rfl⟩
abbrev main_c_23 : Ref sig .tc := ⟨.hbm, 182, rfl⟩
abbrev main_call6_v0 : Ref sig .tc := ⟨.hbm, 183, rfl⟩
abbrev main_call6_c : Ref sig .tc := ⟨.hbm, 184, rfl⟩
abbrev main_call6_v1 : Ref sig .tc := ⟨.hbm, 185, rfl⟩
abbrev main_call6_c_0 : Ref sig .tc := ⟨.hbm, 186, rfl⟩
abbrev main_call6_v2 : Ref sig .tc := ⟨.hbm, 187, rfl⟩
abbrev main_call6_v3 : Ref sig .tc := ⟨.hbm, 188, rfl⟩
abbrev main_call6_v4 : Ref sig .tc := ⟨.hbm, 189, rfl⟩
abbrev main_call6_c_1 : Ref sig .tc := ⟨.hbm, 190, rfl⟩
abbrev main_call6_v5 : Ref sig .tc := ⟨.hbm, 191, rfl⟩
abbrev main_call6_v6 : Ref sig .tc := ⟨.hbm, 192, rfl⟩
abbrev main_call6_c_2 : Ref sig .tc := ⟨.hbm, 193, rfl⟩
abbrev main_call6_v7 : Ref sig .tc := ⟨.hbm, 194, rfl⟩
abbrev main_call6_v8 : Ref sig .tc := ⟨.hbm, 195, rfl⟩
abbrev main_call6_c_3 : Ref sig .tc := ⟨.hbm, 196, rfl⟩
abbrev main_call6_v9 : Ref sig .tc := ⟨.hbm, 197, rfl⟩
abbrev main_call6_v10 : Ref sig .tc := ⟨.hbm, 198, rfl⟩
abbrev main_call6_v11 : Ref sig .tc := ⟨.hbm, 199, rfl⟩
abbrev main_call6_v12 : Ref sig .tc := ⟨.hbm, 200, rfl⟩
abbrev main_call6_v13 : Ref sig .tc := ⟨.hbm, 201, rfl⟩
abbrev main_call6_v14 : Ref sig .tc := ⟨.hbm, 202, rfl⟩
abbrev main_v73 : Ref sig .tc := ⟨.hbm, 203, rfl⟩
abbrev main_c_24 : Ref sig .tc := ⟨.hbm, 204, rfl⟩
abbrev main_v74 : Ref sig .tc := ⟨.hbm, 205, rfl⟩
abbrev main_v75 : Ref sig .tc := ⟨.hbm, 206, rfl⟩
abbrev main_c_25 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩
abbrev main_v83 : Ref sig .tc := ⟨.hbm, 215, rfl⟩
abbrev main_v84 : Ref sig .tc := ⟨.hbm, 216, rfl⟩
abbrev main_v85 : Ref sig .tc := ⟨.hbm, 217, rfl⟩
abbrev main_cst_26 : Ref sig .tc := ⟨.hbm, 218, rfl⟩
abbrev main_v86 : Ref sig .tc := ⟨.hbm, 219, rfl⟩
abbrev main_v87 : Ref sig .tc := ⟨.hbm, 220, rfl⟩
abbrev main_cst_27 : Ref sig .tc := ⟨.hbm, 221, rfl⟩
abbrev main_v88 : Ref sig .tc := ⟨.hbm, 222, rfl⟩
abbrev main_v89 : Ref sig .tc := ⟨.hbm, 223, rfl⟩
abbrev main_cst_28 : Ref sig .tc := ⟨.hbm, 224, rfl⟩
abbrev main_v90 : Ref sig .tc := ⟨.hbm, 225, rfl⟩
abbrev main_v91 : Ref sig .tc := ⟨.hbm, 226, rfl⟩
abbrev main_v92 : Ref sig .tc := ⟨.hbm, 227, rfl⟩
abbrev main_v93 : Ref sig .tc := ⟨.hbm, 228, rfl⟩
abbrev main_cst_29 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_cst_30 : Ref sig .tc := ⟨.hbm, 233, rfl⟩
abbrev main_v97 : Ref sig .tc := ⟨.hbm, 234, rfl⟩
abbrev main_v98 : Ref sig .tc := ⟨.hbm, 235, rfl⟩
abbrev main_cst_31 : Ref sig .tc := ⟨.hbm, 236, rfl⟩
abbrev main_v99 : Ref sig .tc := ⟨.hbm, 237, rfl⟩
abbrev main_v100 : Ref sig .tc := ⟨.hbm, 238, rfl⟩
abbrev main_cst_32 : Ref sig .tc := ⟨.hbm, 239, rfl⟩
abbrev main_v101 : Ref sig .tc := ⟨.hbm, 240, rfl⟩
abbrev main_v102 : Ref sig .tc := ⟨.hbm, 241, rfl⟩
abbrev main_cst_33 : Ref sig .tc := ⟨.hbm, 242, rfl⟩
abbrev main_v103 : Ref sig .tc := ⟨.hbm, 243, rfl⟩
abbrev main_v104 : Ref sig .tc := ⟨.hbm, 244, rfl⟩
abbrev main_cst_34 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_cst_35 : Ref sig .tc := ⟨.hbm, 249, rfl⟩
abbrev main_v108 : Ref sig .tc := ⟨.hbm, 250, rfl⟩
abbrev main_v109 : Ref sig .tc := ⟨.hbm, 251, rfl⟩
abbrev main_v110 : Ref sig .tc := ⟨.hbm, 252, rfl⟩
abbrev main_cst_36 : Ref sig .tc := ⟨.hbm, 253, rfl⟩
abbrev main_v111 : Ref sig .tc := ⟨.hbm, 254, rfl⟩
abbrev main_v112 : Ref sig .tc := ⟨.hbm, 255, rfl⟩
abbrev main_v113 : Ref sig .tc := ⟨.hbm, 256, rfl⟩
abbrev main_cst_37 : Ref sig .tc := ⟨.hbm, 257, rfl⟩
abbrev main_v114 : Ref sig .tc := ⟨.hbm, 258, rfl⟩
abbrev main_v115 : Ref sig .tc := ⟨.hbm, 259, rfl⟩
abbrev main_cst_38 : Ref sig .tc := ⟨.hbm, 260, rfl⟩
abbrev main_v116 : Ref sig .tc := ⟨.hbm, 261, rfl⟩
abbrev main_v117 : Ref sig .tc := ⟨.hbm, 262, rfl⟩
abbrev main_v118 : Ref sig .tc := ⟨.hbm, 263, rfl⟩
abbrev main_v119 : Ref sig .tc := ⟨.hbm, 264, rfl⟩
abbrev main_cst_39 : Ref sig .tc := ⟨.hbm, 265, rfl⟩
abbrev main_v120 : Ref sig .tc := ⟨.hbm, 266, rfl⟩
abbrev main_v121 : Ref sig .tc := ⟨.hbm, 267, rfl⟩
abbrev main_v122 : Ref sig .tc := ⟨.hbm, 268, rfl⟩
abbrev main_cst_40 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_cst_41 : Ref sig .tc := ⟨.hbm, 275, rfl⟩
abbrev main_v128 : Ref sig .tc := ⟨.hbm, 276, rfl⟩
abbrev main_v129 : Ref sig .tc := ⟨.hbm, 277, rfl⟩
abbrev main_cst_42 : Ref sig .tc := ⟨.hbm, 278, rfl⟩
abbrev main_v130 : Ref sig .tc := ⟨.hbm, 279, rfl⟩
abbrev main_v131 : Ref sig .tc := ⟨.hbm, 280, rfl⟩
abbrev main_cst_43 : Ref sig .tc := ⟨.hbm, 281, rfl⟩
abbrev main_v132 : Ref sig .tc := ⟨.hbm, 282, rfl⟩
abbrev main_v133 : Ref sig .tc := ⟨.hbm, 283, rfl⟩
abbrev main_cst_44 : Ref sig .tc := ⟨.hbm, 284, rfl⟩
abbrev main_v134 : Ref sig .tc := ⟨.hbm, 285, rfl⟩
abbrev main_v135 : Ref sig .tc := ⟨.hbm, 286, rfl⟩
abbrev main_cst_45 : Ref sig .tc := ⟨.hbm, 287, rfl⟩
abbrev main_call8_v0 : Ref sig .tc := ⟨.hbm, 288, rfl⟩
abbrev main_call8_v1 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev main_v139 : Ref sig .tc := ⟨.hbm, 293, rfl⟩
abbrev main_v140 : Ref sig .tc := ⟨.hbm, 294, rfl⟩
abbrev main_v141 : Ref sig .tc := ⟨.hbm, 295, rfl⟩
abbrev main_v142 : Ref sig .tc := ⟨.hbm, 296, rfl⟩
abbrev main_v143 : Ref sig .tc := ⟨.hbm, 297, rfl⟩
abbrev main_v144 : Ref sig .tc := ⟨.hbm, 298, rfl⟩
abbrev main_v145 : Ref sig .tc := ⟨.hbm, 299, rfl⟩
abbrev main_c_46 : Ref sig .tc := ⟨.hbm, 300, rfl⟩
abbrev main_call11_v0 : Ref sig .tc := ⟨.hbm, 301, rfl⟩
abbrev main_call11_c : Ref sig .tc := ⟨.hbm, 302, rfl⟩
abbrev main_call11_v1 : Ref sig .tc := ⟨.hbm, 303, rfl⟩
abbrev main_call11_c_0 : Ref sig .tc := ⟨.hbm, 304, rfl⟩
abbrev main_call11_v2 : Ref sig .tc := ⟨.hbm, 305, rfl⟩
abbrev main_call11_v3 : Ref sig .tc := ⟨.hbm, 306, rfl⟩
abbrev main_call11_v4 : Ref sig .tc := ⟨.hbm, 307, rfl⟩
abbrev main_call11_c_1 : Ref sig .tc := ⟨.hbm, 308, rfl⟩
abbrev main_call11_v5 : Ref sig .tc := ⟨.hbm, 309, rfl⟩
abbrev main_call11_v6 : Ref sig .tc := ⟨.hbm, 310, rfl⟩
abbrev main_call11_c_2 : Ref sig .tc := ⟨.hbm, 311, rfl⟩
abbrev main_call11_v7 : Ref sig .tc := ⟨.hbm, 312, rfl⟩
abbrev main_call11_v8 : Ref sig .tc := ⟨.hbm, 313, rfl⟩
abbrev main_call11_c_3 : Ref sig .tc := ⟨.hbm, 314, rfl⟩
abbrev main_call11_v9 : Ref sig .tc := ⟨.hbm, 315, rfl⟩
abbrev main_call11_v10 : Ref sig .tc := ⟨.hbm, 316, rfl⟩
abbrev main_call11_v11 : Ref sig .tc := ⟨.hbm, 317, rfl⟩
abbrev main_call11_v12 : Ref sig .tc := ⟨.hbm, 318, rfl⟩
abbrev main_call11_v13 : Ref sig .tc := ⟨.hbm, 319, rfl⟩
abbrev main_call11_v14 : Ref sig .tc := ⟨.hbm, 320, rfl⟩
abbrev main_v146 : Ref sig .tc := ⟨.hbm, 321, rfl⟩
abbrev main_c_47 : Ref sig .tc := ⟨.hbm, 322, rfl⟩
abbrev main_v147 : Ref sig .tc := ⟨.hbm, 323, rfl⟩
abbrev main_v148 : Ref sig .tc := ⟨.hbm, 324, rfl⟩
abbrev main_c_48 : Ref sig .tc := ⟨.hbm, 325, rfl⟩
abbrev main_v149 : Ref sig .tc := ⟨.hbm, 326, rfl⟩
abbrev main_v150 : Ref sig .tc := ⟨.hbm, 327, rfl⟩
abbrev main_v151 : Ref sig .tc := ⟨.hbm, 328, rfl⟩
abbrev main_v152 : Ref sig .tc := ⟨.hbm, 329, rfl⟩
abbrev main_v153 : Ref sig .tc := ⟨.hbm, 330, rfl⟩
abbrev main_v154 : Ref sig .tc := ⟨.hbm, 331, rfl⟩
abbrev main_v155 : Ref sig .tc := ⟨.hbm, 332, rfl⟩
abbrev main_v156 : Ref sig .tc := ⟨.hbm, 333, rfl⟩
abbrev main_v157 : Ref sig .tc := ⟨.hbm, 334, rfl⟩
abbrev main_v158 : Ref sig .tc := ⟨.hbm, 335, rfl⟩
abbrev main_cst_49 : Ref sig .tc := ⟨.hbm, 336, rfl⟩
abbrev main_v159 : Ref sig .tc := ⟨.hbm, 337, rfl⟩
abbrev main_v160 : Ref sig .tc := ⟨.hbm, 338, rfl⟩
abbrev main_cst_50 : Ref sig .tc := ⟨.hbm, 339, rfl⟩
abbrev main_v161 : Ref sig .tc := ⟨.hbm, 340, rfl⟩
abbrev main_v162 : Ref sig .tc := ⟨.hbm, 341, rfl⟩
abbrev main_cst_51 : Ref sig .tc := ⟨.hbm, 342, rfl⟩
abbrev main_v163 : Ref sig .tc := ⟨.hbm, 343, rfl⟩
abbrev main_v164 : Ref sig .tc := ⟨.hbm, 344, rfl⟩
abbrev main_v165 : Ref sig .tc := ⟨.hbm, 345, rfl⟩
abbrev main_v166 : Ref sig .tc := ⟨.hbm, 346, rfl⟩
abbrev main_cst_52 : Ref sig .tc := ⟨.hbm, 347, rfl⟩
abbrev main_v167 : Ref sig .tc := ⟨.hbm, 348, rfl⟩
abbrev main_v168 : Ref sig .tc := ⟨.hbm, 349, rfl⟩
abbrev main_v169 : Ref sig .tc := ⟨.hbm, 350, rfl⟩
abbrev main_cst_53 : Ref sig .tc := ⟨.hbm, 351, rfl⟩
abbrev main_v170 : Ref sig .tc := ⟨.hbm, 352, rfl⟩
abbrev main_v171 : Ref sig .tc := ⟨.hbm, 353, rfl⟩
abbrev main_cst_54 : Ref sig .tc := ⟨.hbm, 354, rfl⟩
abbrev main_v172 : Ref sig .tc := ⟨.hbm, 355, rfl⟩
abbrev main_v173 : Ref sig .tc := ⟨.hbm, 356, rfl⟩
abbrev main_cst_55 : Ref sig .tc := ⟨.hbm, 357, rfl⟩
abbrev main_v174 : Ref sig .tc := ⟨.hbm, 358, rfl⟩
abbrev main_v175 : Ref sig .tc := ⟨.hbm, 359, rfl⟩
abbrev main_cst_56 : Ref sig .tc := ⟨.hbm, 360, rfl⟩
abbrev main_v176 : Ref sig .tc := ⟨.hbm, 361, rfl⟩
abbrev main_v177 : Ref sig .tc := ⟨.hbm, 362, rfl⟩
abbrev main_cst_57 : Ref sig .tc := ⟨.hbm, 363, rfl⟩
abbrev main_v178 : Ref sig .tc := ⟨.hbm, 364, rfl⟩
abbrev main_v179 : Ref sig .tc := ⟨.hbm, 365, rfl⟩
abbrev main_v180 : Ref sig .tc := ⟨.hbm, 366, rfl⟩
abbrev main_cst_58 : Ref sig .tc := ⟨.hbm, 367, rfl⟩
abbrev main_v181 : Ref sig .tc := ⟨.hbm, 368, rfl⟩
abbrev main_v182 : Ref sig .tc := ⟨.hbm, 369, rfl⟩
abbrev main_v183 : Ref sig .tc := ⟨.hbm, 370, rfl⟩
abbrev main_cst_59 : Ref sig .tc := ⟨.hbm, 371, rfl⟩
abbrev main_v184 : Ref sig .tc := ⟨.hbm, 372, rfl⟩
abbrev main_v185 : Ref sig .tc := ⟨.hbm, 373, rfl⟩
abbrev main_v186 : Ref sig .tc := ⟨.hbm, 374, rfl⟩
abbrev main_cst_60 : Ref sig .tc := ⟨.hbm, 375, rfl⟩
abbrev main_v187 : Ref sig .tc := ⟨.hbm, 376, rfl⟩
abbrev main_v188 : Ref sig .tc := ⟨.hbm, 377, rfl⟩
abbrev main_cst_61 : Ref sig .tc := ⟨.hbm, 378, rfl⟩
abbrev main_v189 : Ref sig .tc := ⟨.hbm, 379, rfl⟩
abbrev main_v190 : Ref sig .tc := ⟨.hbm, 380, rfl⟩
abbrev main_v191 : Ref sig .tc := ⟨.hbm, 381, rfl⟩
abbrev main_v192 : Ref sig .tc := ⟨.hbm, 382, rfl⟩
abbrev main_cst_62 : Ref sig .tc := ⟨.hbm, 383, rfl⟩
abbrev main_v193 : Ref sig .tc := ⟨.hbm, 384, rfl⟩
abbrev main_v194 : Ref sig .tc := ⟨.hbm, 385, rfl⟩
abbrev main_v195 : Ref sig .tc := ⟨.hbm, 386, rfl⟩
abbrev main_cst_63 : Ref sig .tc := ⟨.hbm, 387, rfl⟩
abbrev main_v196 : Ref sig .tc := ⟨.hbm, 388, rfl⟩
abbrev main_v197 : Ref sig .tc := ⟨.hbm, 389, rfl⟩
abbrev main_v198 : Ref sig .tc := ⟨.hbm, 390, rfl⟩
abbrev main_v199 : Ref sig .tc := ⟨.hbm, 391, rfl⟩
abbrev main_v200 : Ref sig .tc := ⟨.hbm, 392, rfl⟩
abbrev main_cst_64 : Ref sig .tc := ⟨.hbm, 393, rfl⟩
abbrev main_v201 : Ref sig .tc := ⟨.hbm, 394, rfl⟩
abbrev main_v202 : Ref sig .tc := ⟨.hbm, 395, rfl⟩
abbrev main_cst_65 : Ref sig .tc := ⟨.hbm, 396, rfl⟩
abbrev main_v203 : Ref sig .tc := ⟨.hbm, 397, rfl⟩
abbrev main_v204 : Ref sig .tc := ⟨.hbm, 398, rfl⟩
abbrev main_cst_66 : Ref sig .tc := ⟨.hbm, 399, rfl⟩
abbrev main_v205 : Ref sig .tc := ⟨.hbm, 400, rfl⟩
abbrev main_v206 : Ref sig .tc := ⟨.hbm, 401, rfl⟩
abbrev main_cst_67 : Ref sig .tc := ⟨.hbm, 402, rfl⟩
abbrev main_v207 : Ref sig .tc := ⟨.hbm, 403, rfl⟩
abbrev main_v208 : Ref sig .tc := ⟨.hbm, 404, rfl⟩
abbrev main_cst_68 : Ref sig .tc := ⟨.hbm, 405, rfl⟩
abbrev main_call13_v0 : Ref sig .tc := ⟨.hbm, 406, rfl⟩
abbrev main_call13_v1 : Ref sig .tc := ⟨.hbm, 407, rfl⟩
abbrev main_v209 : Ref sig .tc := ⟨.hbm, 408, rfl⟩
abbrev main_v210 : Ref sig .tc := ⟨.hbm, 409, rfl⟩
abbrev main_v211 : Ref sig .tc := ⟨.hbm, 410, rfl⟩
abbrev main_v212 : Ref sig .tc := ⟨.hbm, 411, rfl⟩
abbrev main_v213 : Ref sig .tc := ⟨.hbm, 412, rfl⟩
abbrev main_v214 : Ref sig .tc := ⟨.hbm, 413, rfl⟩
abbrev main_v215 : Ref sig .tc := ⟨.hbm, 414, rfl⟩
abbrev main_v216 : Ref sig .tc := ⟨.hbm, 415, rfl⟩
abbrev main_v217 : Ref sig .tc := ⟨.hbm, 416, rfl⟩
abbrev main_v218 : Ref sig .tc := ⟨.hbm, 417, rfl⟩
abbrev main_c_69 : Ref sig .tc := ⟨.hbm, 418, rfl⟩
abbrev main_call16_v0 : Ref sig .tc := ⟨.hbm, 419, rfl⟩
abbrev main_call16_c : Ref sig .tc := ⟨.hbm, 420, rfl⟩
abbrev main_call16_v1 : Ref sig .tc := ⟨.hbm, 421, rfl⟩
abbrev main_call16_c_0 : Ref sig .tc := ⟨.hbm, 422, rfl⟩
abbrev main_call16_v2 : Ref sig .tc := ⟨.hbm, 423, rfl⟩
abbrev main_call16_v3 : Ref sig .tc := ⟨.hbm, 424, rfl⟩
abbrev main_call16_v4 : Ref sig .tc := ⟨.hbm, 425, rfl⟩
abbrev main_call16_c_1 : Ref sig .tc := ⟨.hbm, 426, rfl⟩
abbrev main_call16_v5 : Ref sig .tc := ⟨.hbm, 427, rfl⟩
abbrev main_call16_v6 : Ref sig .tc := ⟨.hbm, 428, rfl⟩
abbrev main_call16_c_2 : Ref sig .tc := ⟨.hbm, 429, rfl⟩
abbrev main_call16_v7 : Ref sig .tc := ⟨.hbm, 430, rfl⟩
abbrev main_call16_v8 : Ref sig .tc := ⟨.hbm, 431, rfl⟩
abbrev main_call16_c_3 : Ref sig .tc := ⟨.hbm, 432, rfl⟩
abbrev main_call16_v9 : Ref sig .tc := ⟨.hbm, 433, rfl⟩
abbrev main_call16_v10 : Ref sig .tc := ⟨.hbm, 434, rfl⟩
abbrev main_call16_v11 : Ref sig .tc := ⟨.hbm, 435, rfl⟩
abbrev main_call16_v12 : Ref sig .tc := ⟨.hbm, 436, rfl⟩
abbrev main_call16_v13 : Ref sig .tc := ⟨.hbm, 437, rfl⟩
abbrev main_call16_v14 : Ref sig .tc := ⟨.hbm, 438, rfl⟩
abbrev main_v219 : Ref sig .tc := ⟨.hbm, 439, rfl⟩
abbrev main_c_70 : Ref sig .tc := ⟨.hbm, 440, rfl⟩
abbrev main_v220 : Ref sig .tc := ⟨.hbm, 441, rfl⟩
abbrev main_v221 : Ref sig .tc := ⟨.hbm, 442, rfl⟩
abbrev main_c_71 : Ref sig .tc := ⟨.hbm, 443, rfl⟩
abbrev main_v222 : Ref sig .tc := ⟨.hbm, 444, rfl⟩
abbrev main_v223 : Ref sig .tc := ⟨.hbm, 445, rfl⟩
abbrev main_v224 : Ref sig .tc := ⟨.hbm, 446, rfl⟩
abbrev main_v225 : Ref sig .tc := ⟨.hbm, 447, rfl⟩
abbrev main_v226 : Ref sig .tc := ⟨.hbm, 448, rfl⟩
abbrev main_v227 : Ref sig .tc := ⟨.hbm, 449, rfl⟩
abbrev main_v228 : Ref sig .tc := ⟨.hbm, 450, rfl⟩
abbrev main_v229 : Ref sig .tc := ⟨.hbm, 451, rfl⟩
abbrev main_v230 : Ref sig .tc := ⟨.hbm, 452, rfl⟩
abbrev main_v231 : Ref sig .tc := ⟨.hbm, 453, rfl⟩
abbrev main_cst_72 : Ref sig .tc := ⟨.hbm, 454, rfl⟩
abbrev main_v232 : Ref sig .tc := ⟨.hbm, 455, rfl⟩
abbrev main_v233 : Ref sig .tc := ⟨.hbm, 456, rfl⟩
abbrev main_cst_73 : Ref sig .tc := ⟨.hbm, 457, rfl⟩
abbrev main_v234 : Ref sig .tc := ⟨.hbm, 458, rfl⟩
abbrev main_v235 : Ref sig .tc := ⟨.hbm, 459, rfl⟩
abbrev main_cst_74 : Ref sig .tc := ⟨.hbm, 460, rfl⟩
abbrev main_v236 : Ref sig .tc := ⟨.hbm, 461, rfl⟩
abbrev main_v237 : Ref sig .tc := ⟨.hbm, 462, rfl⟩
abbrev main_v238 : Ref sig .tc := ⟨.hbm, 463, rfl⟩
abbrev main_v239 : Ref sig .tc := ⟨.hbm, 464, rfl⟩
abbrev main_cst_75 : Ref sig .tc := ⟨.hbm, 465, rfl⟩
abbrev main_v240 : Ref sig .tc := ⟨.hbm, 466, rfl⟩
abbrev main_v241 : Ref sig .tc := ⟨.hbm, 467, rfl⟩
abbrev main_v242 : Ref sig .tc := ⟨.hbm, 468, rfl⟩
abbrev main_cst_76 : Ref sig .tc := ⟨.hbm, 469, rfl⟩
abbrev main_v243 : Ref sig .tc := ⟨.hbm, 470, rfl⟩
abbrev main_v244 : Ref sig .tc := ⟨.hbm, 471, rfl⟩
abbrev main_cst_77 : Ref sig .tc := ⟨.hbm, 472, rfl⟩
abbrev main_v245 : Ref sig .tc := ⟨.hbm, 473, rfl⟩
abbrev main_v246 : Ref sig .tc := ⟨.hbm, 474, rfl⟩
abbrev main_cst_78 : Ref sig .tc := ⟨.hbm, 475, rfl⟩
abbrev main_v247 : Ref sig .tc := ⟨.hbm, 476, rfl⟩
abbrev main_v248 : Ref sig .tc := ⟨.hbm, 477, rfl⟩
abbrev main_cst_79 : Ref sig .tc := ⟨.hbm, 478, rfl⟩
abbrev main_v249 : Ref sig .tc := ⟨.hbm, 479, rfl⟩
abbrev main_v250 : Ref sig .tc := ⟨.hbm, 480, rfl⟩
abbrev main_cst_80 : Ref sig .tc := ⟨.hbm, 481, rfl⟩
abbrev main_v251 : Ref sig .tc := ⟨.hbm, 482, rfl⟩
abbrev main_v252 : Ref sig .tc := ⟨.hbm, 483, rfl⟩
abbrev main_v253 : Ref sig .tc := ⟨.hbm, 484, rfl⟩
abbrev main_cst_81 : Ref sig .tc := ⟨.hbm, 485, rfl⟩
abbrev main_v254 : Ref sig .tc := ⟨.hbm, 486, rfl⟩
abbrev main_v255 : Ref sig .tc := ⟨.hbm, 487, rfl⟩
abbrev main_v256 : Ref sig .tc := ⟨.hbm, 488, rfl⟩
abbrev main_cst_82 : Ref sig .tc := ⟨.hbm, 489, rfl⟩
abbrev main_v257 : Ref sig .tc := ⟨.hbm, 490, rfl⟩
abbrev main_v258 : Ref sig .tc := ⟨.hbm, 491, rfl⟩
abbrev main_v259 : Ref sig .tc := ⟨.hbm, 492, rfl⟩
abbrev main_cst_83 : Ref sig .tc := ⟨.hbm, 493, rfl⟩
abbrev main_v260 : Ref sig .tc := ⟨.hbm, 494, rfl⟩
abbrev main_v261 : Ref sig .tc := ⟨.hbm, 495, rfl⟩
abbrev main_cst_84 : Ref sig .tc := ⟨.hbm, 496, rfl⟩
abbrev main_v262 : Ref sig .tc := ⟨.hbm, 497, rfl⟩
abbrev main_v263 : Ref sig .tc := ⟨.hbm, 498, rfl⟩
abbrev main_v264 : Ref sig .tc := ⟨.hbm, 499, rfl⟩
abbrev main_v265 : Ref sig .tc := ⟨.hbm, 500, rfl⟩
abbrev main_cst_85 : Ref sig .tc := ⟨.hbm, 501, rfl⟩
abbrev main_v266 : Ref sig .tc := ⟨.hbm, 502, rfl⟩
abbrev main_v267 : Ref sig .tc := ⟨.hbm, 503, rfl⟩
abbrev main_v268 : Ref sig .tc := ⟨.hbm, 504, rfl⟩
abbrev main_cst_86 : Ref sig .tc := ⟨.hbm, 505, rfl⟩
abbrev main_v269 : Ref sig .tc := ⟨.hbm, 506, rfl⟩
abbrev main_v270 : Ref sig .tc := ⟨.hbm, 507, rfl⟩
abbrev main_v271 : Ref sig .tc := ⟨.hbm, 508, rfl⟩
abbrev main_v272 : Ref sig .tc := ⟨.hbm, 509, rfl⟩
abbrev main_v273 : Ref sig .tc := ⟨.hbm, 510, rfl⟩
abbrev main_cst_87 : Ref sig .tc := ⟨.hbm, 511, rfl⟩
abbrev main_v274 : Ref sig .tc := ⟨.hbm, 512, rfl⟩
abbrev main_v275 : Ref sig .tc := ⟨.hbm, 513, rfl⟩
abbrev main_cst_88 : Ref sig .tc := ⟨.hbm, 514, rfl⟩
abbrev main_v276 : Ref sig .tc := ⟨.hbm, 515, rfl⟩
abbrev main_v277 : Ref sig .tc := ⟨.hbm, 516, rfl⟩
abbrev main_cst_89 : Ref sig .tc := ⟨.hbm, 517, rfl⟩
abbrev main_v278 : Ref sig .tc := ⟨.hbm, 518, rfl⟩
abbrev main_v279 : Ref sig .tc := ⟨.hbm, 519, rfl⟩
abbrev main_cst_90 : Ref sig .tc := ⟨.hbm, 520, rfl⟩
abbrev main_v280 : Ref sig .tc := ⟨.hbm, 521, rfl⟩
abbrev main_v281 : Ref sig .tc := ⟨.hbm, 522, rfl⟩
abbrev main_cst_91 : Ref sig .tc := ⟨.hbm, 523, rfl⟩
abbrev main_call18_v0 : Ref sig .tc := ⟨.hbm, 524, rfl⟩
abbrev main_call18_v1 : Ref sig .tc := ⟨.hbm, 525, rfl⟩
abbrev main_v282 : Ref sig .tc := ⟨.hbm, 526, rfl⟩
abbrev main_v283 : Ref sig .tc := ⟨.hbm, 527, rfl⟩
abbrev main_v284 : Ref sig .tc := ⟨.hbm, 528, rfl⟩
abbrev main_v285 : Ref sig .tc := ⟨.hbm, 529, rfl⟩
abbrev main_c_92 : Ref sig .tc := ⟨.hbm, 530, rfl⟩
abbrev main_v286 : Ref sig .tc := ⟨.hbm, 531, rfl⟩
abbrev main_v287 : Ref sig .tc := ⟨.hbm, 532, rfl⟩
abbrev main_v288 : Ref sig .tc := ⟨.hbm, 533, rfl⟩
abbrev main_v289 : Ref sig .tc := ⟨.hbm, 534, rfl⟩
abbrev main_v290 : Ref sig .tc := ⟨.hbm, 535, rfl⟩
abbrev main_v291 : Ref sig .tc := ⟨.hbm, 536, rfl⟩
abbrev main_c_93 : Ref sig .tc := ⟨.hbm, 537, rfl⟩
abbrev main_v292 : Ref sig .tc := ⟨.hbm, 538, rfl⟩
abbrev main_v293 : Ref sig .tc := ⟨.hbm, 539, rfl⟩
abbrev main_v294 : Ref sig .tc := ⟨.hbm, 540, rfl⟩
abbrev main_v295 : Ref sig .tc := ⟨.hbm, 541, rfl⟩
abbrev main_v296 : Ref sig .tc := ⟨.hbm, 542, rfl⟩
abbrev main_v297 : Ref sig .tc := ⟨.hbm, 543, rfl⟩
abbrev main_v298 : Ref sig .tc := ⟨.hbm, 544, rfl⟩
abbrev main_c_94 : Ref sig .tc := ⟨.hbm, 545, rfl⟩
abbrev main_v299 : Ref sig .tc := ⟨.hbm, 546, rfl⟩
abbrev main_v300 : Ref sig .tc := ⟨.hbm, 547, rfl⟩
abbrev main_c_95 : Ref sig .tc := ⟨.hbm, 548, rfl⟩
abbrev main_v301 : Ref sig .tc := ⟨.hbm, 549, rfl⟩
abbrev main_v302 : Ref sig .tc := ⟨.hbm, 550, rfl⟩
abbrev main_v303 : Ref sig .tc := ⟨.hbm, 551, rfl⟩
abbrev main_v304 : Ref sig .tc := ⟨.hbm, 552, rfl⟩
abbrev main_v305 : Ref sig .tc := ⟨.hbm, 553, rfl⟩
abbrev main_v306 : Ref sig .tc := ⟨.hbm, 554, rfl⟩
abbrev main_v307 : Ref sig .tc := ⟨.hbm, 555, rfl⟩
abbrev main_v308 : Ref sig .tc := ⟨.hbm, 556, rfl⟩
abbrev main_v309 : Ref sig .tc := ⟨.hbm, 557, rfl⟩
abbrev main_v310 : Ref sig .tc := ⟨.hbm, 558, rfl⟩
abbrev main_v311 : Ref sig .tc := ⟨.hbm, 559, rfl⟩
abbrev main_v312 : Ref sig .tc := ⟨.hbm, 560, rfl⟩
abbrev main_v313 : Ref sig .tc := ⟨.hbm, 561, rfl⟩
abbrev main_v314 : Ref sig .tc := ⟨.hbm, 562, rfl⟩
abbrev main_v315 : Ref sig .tc := ⟨.hbm, 563, rfl⟩
abbrev main_cst_96 : Ref sig .tc := ⟨.hbm, 564, rfl⟩
abbrev main_v316 : Ref sig .tc := ⟨.hbm, 565, rfl⟩
abbrev main_v317 : Ref sig .tc := ⟨.hbm, 566, rfl⟩
abbrev main_cst_97 : Ref sig .tc := ⟨.hbm, 567, rfl⟩
abbrev main_v318 : Ref sig .tc := ⟨.hbm, 568, rfl⟩
abbrev main_v319 : Ref sig .tc := ⟨.hbm, 569, rfl⟩
abbrev main_v320 : Ref sig .tc := ⟨.hbm, 570, rfl⟩
abbrev main_cst_98 : Ref sig .tc := ⟨.hbm, 571, rfl⟩
abbrev main_v321 : Ref sig .tc := ⟨.hbm, 572, rfl⟩
abbrev main_cst_99 : Ref sig .tc := ⟨.hbm, 573, rfl⟩
abbrev main_v322 : Ref sig .tc := ⟨.hbm, 574, rfl⟩
abbrev main_v323 : Ref sig .tc := ⟨.hbm, 575, rfl⟩
abbrev main_cst_100 : Ref sig .tc := ⟨.hbm, 576, rfl⟩
abbrev main_v324 : Ref sig .tc := ⟨.hbm, 577, rfl⟩
abbrev main_v325 : Ref sig .tc := ⟨.hbm, 578, rfl⟩
abbrev main_v326 : Ref sig .tc := ⟨.hbm, 579, rfl⟩

abbrev nD : Nat := 1
abbrev τ : Topo := Topo.v7x

variable {F : FTy → Type} [FloatOps F]
-- ==== Proof.FramePI.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x8x512 := Rect.unit (s := S1x8x512) ![0, 0, 0] S1x8x512.size inb_S1x8x512_S1x8x512_0_0_0
abbrev r0_1 : Rect S1x1x256 := Rect.unit (s := S1x1x256) ![0, 0, 0] S1x1x256.size inb_S1x1x256_S1x1x256_0_0_0

def out0_1 (x0 : Vec F S1x8x512 .f32) : Vec F S1x1x256 .f32 :=
  View.canon [⟨r0_1, k0_pay1 (k0_pay2 (View.ld x0 r0_0)) (k0_pay3 (View.ld x0 r0_0)) (Scalar.ofBits .f32 0x43800000#32) (k0_pay4 (View.ld x0 r0_0)) (Scalar.cmpf .one (k0_pay4 (View.ld x0 r0_0)) (Scalar.ofBits .f32 0x00000000#32)) (Scalar.cmpf .olt (k0_pay4 (View.ld x0 r0_0)) (Scalar.ofBits .f32 0x00000000#32)) (Scalar.cmpf .olt (Scalar.ofBits (F := F) .f32 0x43800000#32) (Scalar.ofBits .f32 0x00000000#32))⟩]

theorem cover0_1 (p0 : Vec F S1x1x256 .f32) (y : S1x1x256.Idx) :
    ∃ pc ∈ ([⟨r0_1, p0⟩] : List (View.Piece (Elt F) S1x1x256 .f32)), y ∈ pc.1.set :=
  View.cover_of_tiled [⟨r0_1, p0⟩] S1x1x256.size (by rfl) y

set_option maxHeartbeats 1000000 in
theorem sound_kernel0 (c : Dev nD) (E : Set ℕ) (i : grid0.Coords) (arg1 : Memref sig .tc .vmem S1x8x512 .f32) (harg1 : arg1.IsWhole) (arg2 : Memref sig .tc .vmem S1x1x256 .f32) (harg2 : arg2.IsWhole)
    (x0 : Vec F S1x8x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__hist_cdf_body i arg1 harg1 arg2 harg2) K := by
  simp only [cc0__hist_cdf_body_eq_skeleton]; unfold cc0__hist_cdf_body_skel
  simp only [k0_part1_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x8x512 := Rect.unit (s := S1x8x512) ![0, 0, 0] S1x8x512.size inb_S1x8x512_S1x8x512_0_0_0
abbrev r1_1 : Rect S1x64x256 := Rect.unit (s := S1x64x256) ![0, 0, 0] S1x64x256.size inb_S1x64x256_S1x64x256_0_0_0
abbrev r1_2 : Rect S1x64x4 := Rect.unit (s := S1x64x4) ![0, 0, 0] S1x64x4.size inb_S1x64x4_S1x64x4_0_0_0
abbrev r1_3 : Rect S8x64 := Rect.unit (s := S8x64) ![0, 0] S8x64.size inb_S8x64_S8x64_0_0
abbrev r1_4 : Rect S512x64 := Rect.unit (s := S512x64) ![0, 0] S512x64.size inb_S512x64_S512x64_0_0

def k1_pay38 (x0 : Vec F S1x8x512 .f32) (x1 : Vec F S1x64x256 .f32) (x2 : Vec F S1x64x4 .f32) (x3 : Vec F S8x64 .f32) (x4 : Vec F S512x64 .f32) : FVec F S8x512 .f32 :=
  k1_pay2 (View.ld x0 r1_0) -- `v3`
def k1_pay39 (x0 : Vec F S1x8x512 .f32) (x1 : Vec F S1x64x256 .f32) (x2 : Vec F S1x64x4 .f32) (x3 : Vec F S8x64 .f32) (x4 : Vec F S512x64 .f32) : FVec F S8x512 .f32 :=
  k1_pay18 (k1_pay38 x0 x1 x2 x3 x4) -- `v124`
def k1_pay40 (x0 : Vec F S1x8x512 .f32) (x1 : Vec F S1x64x256 .f32) (x2 : Vec F S1x64x4 .f32) (x3 : Vec F S8x64 .f32) (x4 : Vec F S512x64 .f32) : FVec F S8x512 .f32 :=
  k1_pay19 (k1_pay38 x0 x1 x2 x3 x4) -- `v125`

def out1_5 (x0 : Vec F S1x8x512 .f32) (x1 : Vec F S1x64x256 .f32) (x2 : Vec F S1x64x4 .f32) (x3 : Vec F S8x64 .f32) (x4 : Vec F S512x64 .f32) : Vec F S1x8x512 .f32 :=
  View.canon [⟨r1_0, k1_pay1 (k1_pay11 (k1_pay3 (View.ld x0 r1_0)) (k1_pay4 (View.ld x0 r1_0)) (k1_pay5 (View.ld x0 r1_0)) (k1_pay6 (View.ld x0 r1_0)) (k1_pay7 (View.ld x0 r1_0)) (k1_pay8 (View.ld x0 r1_0)) (k1_pay9 (View.ld x0 r1_0)) (k1_pay10 (View.ld x0 r1_0)) (View.ld x1 r1_1)) (k1_pay37 (k1_pay17 (k1_pay12 (k1_pay38 x0 x1 x2 x3 x4)) (k1_pay13 (k1_pay38 x0 x1 x2 x3 x4)) (k1_pay14 (k1_pay38 x0 x1 x2 x3 x4)) (k1_pay15 (k1_pay38 x0 x1 x2 x3 x4)) (k1_pay16 (k1_pay38 x0 x1 x2 x3 x4)) (Scalar.ofBits .f32 0x41000000#32)) (k1_pay25 (k1_pay39 x0 x1 x2 x3 x4) (k1_pay21 (k1_pay39 x0 x1 x2 x3 x4) (k1_pay40 x0 x1 x2 x3 x4)) (k1_pay22 (k1_pay39 x0 x1 x2 x3 x4) (k1_pay40 x0 x1 x2 x3 x4)) (k1_pay23 (k1_pay39 x0 x1 x2 x3 x4)) (k1_pay24 (F := F))) (k1_pay31 (k1_pay26 (k1_pay38 x0 x1 x2 x3 x4)) (k1_pay28 (k1_pay38 x0 x1 x2 x3 x4)) (k1_pay29 (k1_pay38 x0 x1 x2 x3 x4)) (k1_pay30 (k1_pay38 x0 x1 x2 x3 x4))) (k1_pay32 (k1_pay38 x0 x1 x2 x3 x4)) (k1_pay33 (k1_pay38 x0 x1 x2 x3 x4)) (k1_pay34 (k1_pay38 x0 x1 x2 x3 x4)) (k1_pay35 (k1_pay38 x0 x1 x2 x3 x4)) (k1_pay36 (k1_pay38 x0 x1 x2 x3 x4)) (Scalar.ofBits .f32 0x41000000#32)) (View.ld x2 r1_2) (View.ld x3 r1_3) (View.ld x4 r1_4)⟩]

theorem cover1_5 (p0 : Vec F S1x8x512 .f32) (y : S1x8x512.Idx) :
    ∃ pc ∈ ([⟨r1_0, p0⟩] : List (View.Piece (Elt F) S1x8x512 .f32)), y ∈ pc.1.set :=
  View.cover_of_tiled [⟨r1_0, p0⟩] S1x8x512.size (by rfl) y

set_option maxHeartbeats 1000000 in
theorem sound_kernel1 (c : Dev nD) (E : Set ℕ) (i : grid1.Coords) (arg2 : Memref sig .tc .vmem S1x8x512 .f32) (harg2 : arg2.IsWhole) (arg3 : Memref sig .tc .vmem S1x64x256 .f32) (harg3 : arg3.IsWhole) (arg4 : Memref sig .tc .vmem S1x64x4 .f32) (harg4 : arg4.IsWhole) (arg5 : Memref sig .tc .vmem S8x64 .f32) (harg5 : arg5.IsWhole) (arg6 : Memref sig .tc .vmem S512x64 .f32) (harg6 : arg6.IsWhole) (arg7 : Memref sig .tc .vmem S1x8x512 .f32) (harg7 : arg7.IsWhole)
    (x0 : Vec F S1x8x512 .f32) (x1 : Vec F S1x64x256 .f32) (x2 : Vec F S1x64x4 .f32) (x3 : Vec F S8x64 .f32) (x4 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3 x4)) -∗ K ⟨⟩))
      ⊢ wp frame (wpE (defs₀ (F := F)) Variants.none c none) E (cc1__resample_body i arg2 harg2 arg3 harg3 arg4 harg4 arg5 harg5 arg6 harg6 arg7 harg7) K := by
  simp only [cc1__resample_body_eq_skeleton]; unfold cc1__resample_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover1_5 _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S2x512x512 := Rect.unit (s := S2x512x512) ![0, 0, 0] S2x512x512.size inb_S2x512x512_S2x512x512_0_0_0

def out2_1 (x0 : Vec F S2x512x512 .f32) : Vec F S2x512x512 .f32 :=
  View.canon [⟨r2_0, k2_pay1 (View.ld x0 r2_0)⟩]

theorem cover2_1 (p0 : Vec F S2x512x512 .f32) (y : S2x512x512.Idx) :
    ∃ pc ∈ ([⟨r2_0, p0⟩] : List (View.Piece (Elt F) S2x512x512 .f32)), y ∈ pc.1.set :=
  View.cover_of_tiled [⟨r2_0, p0⟩] S2x512x512.size (by rfl) y

set_option maxHeartbeats 1000000 in
theorem sound_kernel2 (c : Dev nD) (E : Set ℕ) (arg0 : Memref sig .tc .vmem S2x512x512 .f32) (harg0 : arg0.IsWhole) (arg1 : Memref sig .tc .vmem S2x512x512 .f32) (harg1 : arg1.IsWhole)
    (x0 : Vec F S2x512x512 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out2_1 x0)) -∗ K ⟨⟩))
      ⊢ wp frame (wpE (defs₀ (F := F)) Variants.none c none) E (cc2__finalize_body arg0 harg0 arg1 harg1) K := by
  simp only [cc2__finalize_body_eq_skeleton]; unfold cc2__finalize_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

abbrev argRefs : List (Ref sig .tc) := [main_arg0]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v4, main_v5, main_v6, main_v7, main_v8, main_v9, main_cst, main_cst_0]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v10]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_v11, main_v12, main_v13, main_c, main_v14, main_v15, main_v16, main_v17, main_v18, main_v19, main_v20, main_v21, main_v22, main_v23, main_v24, main_v25, main_v26, main_v27, main_cst_1, main_v28, main_v29, main_cst_2, main_v30, main_v31, main_cst_3, main_v32, main_v33, main_v34, main_v35, main_cst_4, main_v36, main_v37, main_v38, main_cst_5, main_v39, main_v40, main_cst_6, main_v41, main_v42, main_cst_7, main_v43, main_v44, main_cst_8, main_v45, main_v46, main_cst_9, main_v47, main_v48, main_v49, main_cst_10, main_v50, main_v51, main_v52, main_cst_11, main_v53, main_v54, main_v55, main_cst_12, main_v56, main_v57, main_cst_13, main_v58, main_v59, main_v60, main_v61, main_cst_14, main_v62, main_v63, main_v64, main_cst_15, main_v65, main_v66, main_v67, main_v68, main_v69, main_cst_16, main_v70, main_v71, main_cst_17, main_v72, main_v73, main_cst_18, main_v74, main_v75, main_cst_19, main_v76, main_v77, main_cst_20]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps1_3_fresh : (hostOps1_3 : List (HloOp τ sig (Elt F))).Forall fun op => op.fresh = ∅ := by
  simp only [List.Forall]; repeat' constructor
abbrev hostOps1_3_W : List (Ref sig .tc) := [main_call1_v0, main_call1_v1, main_v78]
theorem hostOps1_3_writes : (hostOps1_3 : List (HloOp τ sig (Elt F))).Forall fun op => op.writes ⊆ (hostOps1_3_W.map (Proc.devRef (τ := τ) .tc)).toFinset :=
  StableHlo.forall_writes_sub_of_map rfl
theorem hostOps1_3_args : ∀ a ∈ argRefs, a ∉ hostOps1_3_W := ListAll.forall_mem_of_all_decide (by decide +kernel)

theorem hostOps1_4_fresh : (hostOps1_4 : List (HloOp τ sig (Elt F))).Forall fun op => op.fresh = ∅ := by
  simp only [List.Forall]; repeat' constructor
abbrev hostOps1_4_W : List (Ref sig .tc) := [main_v79]
theorem hostOps1_4_writes : (hostOps1_4 : List (HloOp τ sig (Elt F))).Forall fun op => op.writes ⊆ (hostOps1_4_W.map (Proc.devRef (τ := τ) .tc)).toFinset :=
  StableHlo.forall_writes_sub_of_map rfl
theorem hostOps1_4_args : ∀ a ∈ argRefs, a ∉ hostOps1_4_W := ListAll.forall_mem_of_all_decide (by decide +kernel)

theorem hostOps1_5_fresh : (hostOps1_5 : List (HloOp τ sig (Elt F))).Forall fun op => op.fresh = ∅ := by
  simp only [List.Forall]; repeat' constructor
abbrev hostOps1_5_W : List (Ref sig .tc) := [main_v80]
theorem hostOps1_5_writes : (hostOps1_5 : List (HloOp τ sig (Elt F))).Forall fun op => op.writes ⊆ (hostOps1_5_W.map (Proc.devRef (τ := τ) .tc)).toFinset :=
  StableHlo.forall_writes_sub_of_map rfl
theorem hostOps1_5_args : ∀ a ∈ argRefs, a ∉ hostOps1_5_W := ListAll.forall_mem_of_all_decide (by decide +kernel)

theorem hostOps1_6_fresh : (hostOps1_6 : List (HloOp τ sig (Elt F))).Forall fun op => op.fresh = ∅ := by
  simp only [List.Forall]; repeat' constructor
abbrev hostOps1_6_W : List (Ref sig .tc) := [main_c_21]
theorem hostOps1_6_writes : (hostOps1_6 : List (HloOp τ sig (Elt F))).Forall fun op => op.writes ⊆ (hostOps1_6_W.map (Proc.devRef (τ := τ) .tc)).toFinset :=
  StableHlo.forall_writes_sub_of_map rfl
theorem hostOps1_6_args : ∀ a ∈ argRefs, a ∉ hostOps1_6_W := ListAll.forall_mem_of_all_decide (by decide +kernel)

theorem hostOps1_7_fresh : (hostOps1_7 : List (HloOp τ sig (Elt F))).Forall fun op => op.fresh = ∅ := by
  simp only [List.Forall]; repeat' constructor
abbrev hostOps1_7_W : List (Ref sig .tc) := [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v81]
theorem hostOps1_7_writes : (hostOps1_7 : List (HloOp τ sig (Elt F))).Forall fun op => op.writes ⊆ (hostOps1_7_W.map (Proc.devRef (τ := τ) .tc)).toFinset :=
  StableHlo.forall_writes_sub_of_map rfl
theorem hostOps1_7_args : ∀ a ∈ argRefs, a ∉ hostOps1_7_W := ListAll.forall_mem_of_all_decide (by decide +kernel)

theorem hostOps1_8_fresh : (hostOps1_8 : List (HloOp τ sig (Elt F))).Forall fun op => op.fresh = ∅ := by
  simp only [List.Forall]; repeat' constructor
abbrev hostOps1_8_W : List (Ref sig .tc) := [main_c_22, main_v82, main_v83, main_c_23, main_v84, main_v85]
theorem hostOps1_8_writes : (hostOps1_8 : List (HloOp τ sig (Elt F))).Forall fun op => op.writes ⊆ (hostOps1_8_W.map (Proc.devRef (τ := τ) .tc)).toFinset :=
  StableHlo.forall_writes_sub_of_map rfl
theorem hostOps1_8_args : ∀ a ∈ argRefs, a ∉ hostOps1_8_W := ListAll.forall_mem_of_all_decide (by decide +kernel)

theorem hostOps1_9_fresh : (hostOps1_9 : List (HloOp τ sig (Elt F))).Forall fun op => op.fresh = ∅ := by
  simp only [List.Forall]; repeat' constructor
abbrev hostOps1_9_W : List (Ref sig .tc) := [main_v86]
theorem hostOps1_9_writes : (hostOps1_9 : List (HloOp τ sig (Elt F))).Forall fun op => op.writes ⊆ (hostOps1_9_W.map (Proc.devRef (τ := τ) .tc)).toFinset :=
  StableHlo.forall_writes_sub_of_map rfl
theorem hostOps1_9_args : ∀ a ∈ argRefs, a ∉ hostOps1_9_W := ListAll.forall_mem_of_all_decide (by decide +kernel)

theorem hostOps1_10_fresh : (hostOps1_10 : List (HloOp τ sig (Elt F))).Forall fun op => op.fresh = ∅ := by
  simp only [List.Forall]; repeat' constructor
abbrev hostOps1_10_W : List (Ref sig .tc) := [main_v87, main_v88, main_v89, main_v90, main_v91, main_v92, main_v93, main_cst_24]
theorem hostOps1_10_writes : (hostOps1_10 : List (HloOp τ sig (Elt F))).Forall fun op => op.writes ⊆ (hostOps1_10_W.map (Proc.devRef (τ := τ) .tc)).toFinset :=
  StableHlo.forall_writes_sub_of_map rfl
theorem hostOps1_10_args : ∀ a ∈ argRefs, a ∉ hostOps1_10_W := ListAll.forall_mem_of_all_decide (by decide +kernel)

theorem hostOps1_11_fresh : (hostOps1_11 : List (HloOp τ sig (Elt F))).Forall fun op => op.fresh = ∅ := by
  simp only [List.Forall]; repeat' constructor
abbrev hostOps1_11_W : List (Ref sig .tc) := [main_call6_v0, main_call6_v1, main_call6_v2, main_v94]
theorem hostOps1_11_writes : (hostOps1_11 : List (HloOp τ sig (Elt F))).Forall fun op => op.writes ⊆ (hostOps1_11_W.map (Proc.devRef (τ := τ) .tc)).toFinset :=
  StableHlo.forall_writes_sub_of_map rfl
theorem hostOps1_11_args : ∀ a ∈ argRefs, a ∉ hostOps1_11_W := ListAll.forall_mem_of_all_decide (by decide +kernel)

theorem hostOps1_12_fresh : (hostOps1_12 : List (HloOp τ sig (Elt F))).Forall fun op => op.fresh = ∅ := by
  simp only [List.Forall]; repeat' constructor
abbrev hostOps1_12_W : List (Ref sig .tc) := [main_cst_25, main_v95, main_v96, main_v97, main_v98, main_v99, main_v100, main_v101]
theorem hostOps1_12_writes : (hostOps1_12 : List (HloOp τ sig (Elt F))).Forall fun op => op.writes ⊆ (hostOps1_12_W.map (Proc.devRef (τ := τ) .tc)).toFinset :=
  StableHlo.forall_writes_sub_of_map rfl
theorem hostOps1_12_args : ∀ a ∈ argRefs, a ∉ hostOps1_12_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v104]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev W4 : Dev nD → Valuation τ sig (Elt F) := fun c => StableHlo.after hostOps1_1 (W3 m ρ c)
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
abbrev W5 : Dev nD → Valuation τ sig (Elt F) := fun c => StableHlo.after hostOps1_2 (W4 m ρ c)
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
abbrev W6 : Dev nD → Valuation τ sig (Elt F) := fun c => StableHlo.after hostOps1_3 (W5 m ρ c)
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
abbrev W7 : Dev nD → Valuation τ sig (Elt F) := fun c => StableHlo.after hostOps1_4 (W6 m ρ c)
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
abbrev W8 : Dev nD → Valuation τ sig (Elt F) := fun c => StableHlo.after hostOps1_5 (W7 m ρ c)
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
abbrev W9 : Dev nD → Valuation τ sig (Elt F) := fun c => StableHlo.after hostOps1_6 (W8 m ρ c)
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
abbrev W10 : Dev nD → Valuation τ sig (Elt F) := fun c => StableHlo.after hostOps1_7 (W9 m ρ c)
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
abbrev W11 : Dev nD → Valuation τ sig (Elt F) := fun c => StableHlo.after hostOps1_8 (W10 m ρ c)
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
abbrev W12 : Dev nD → Valuation τ sig (Elt F) := fun c => StableHlo.after hostOps1_9 (W11 m ρ c)
theorem W12_of (c : Dev nD) (r : Ref sig .tc) (h : r ∉ hostOps1_9_W) : W12 m ρ c (Proc.devRef .tc r) = W11 m ρ c (Proc.devRef .tc r) :=
  StableHlo.after_of_writes_sub hostOps1_9 _ hostOps1_9_writes h
theorem W12_args (c : Dev nD) : ∀ a ∈ argRefs, W12 m ρ c (Proc.devRef .tc a) = m ((c : Thread nD τ).loc a) :=
  fun a ha => (W12_of m ρ c a (hostOps1_9_args a ha)).trans (W11_args m ρ c a ha)
abbrev W13 : Dev nD → Valuation τ sig (Elt F) := fun c => StableHlo.after hostOps1_10 (W12 m ρ c)
theorem W13_of (c : Dev nD) (r : Ref sig .tc) (h : r ∉ hostOps1_10_W) : W13 m ρ c (Proc.devRef .tc r) = W12 m ρ c (Proc.devRef .tc r) :=
  StableHlo.after_of_writes_sub hostOps1_10 _ hostOps1_10_writes h
theorem W13_args (c : Dev nD) : ∀ a ∈ argRefs, W13 m ρ c (Proc.devRef .tc a) = m ((c : Thread nD τ).loc a) :=
  fun a ha => (W13_of m ρ c a (hostOps1_10_args a ha)).trans (W12_args m ρ c a ha)
abbrev W14 : Dev nD → Valuation τ sig (Elt F) := fun c => StableHlo.after hostOps1_11 (W13 m ρ c)
theorem W14_of (c : Dev nD) (r : Ref sig .tc) (h : r ∉ hostOps1_11_W) : W14 m ρ c (Proc.devRef .tc r) = W13 m ρ c (Proc.devRef .tc r) :=
  StableHlo.after_of_writes_sub hostOps1_11 _ hostOps1_11_writes h
theorem W14_args (c : Dev nD) : ∀ a ∈ argRefs, W14 m ρ c (Proc.devRef .tc a) = m ((c : Thread nD τ).loc a) :=
  fun a ha => (W14_of m ρ c a (hostOps1_11_args a ha)).trans (W13_args m ρ c a ha)
abbrev W15 : Dev nD → Valuation τ sig (Elt F) := fun c => StableHlo.after hostOps1_12 (W14 m ρ c)
theorem W15_of (c : Dev nD) (r : Ref sig .tc) (h : r ∉ hostOps1_12_W) : W15 m ρ c (Proc.devRef .tc r) = W14 m ρ c (Proc.devRef .tc r) :=
  StableHlo.after_of_writes_sub hostOps1_12 _ hostOps1_12_writes h
theorem W15_args (c : Dev nD) : ∀ a ∈ argRefs, W15 m ρ c (Proc.devRef .tc a) = m ((c : Thread nD τ).loc a) :=
  fun a ha => (W15_of m ρ c a (hostOps1_12_args a ha)).trans (W14_args m ρ c a ha)
abbrev V15 : (c : Dev nD) → (b : Ref sig .tc) → Buf (Elt F) ((c : Thread nD τ).loc b) := fun c b => W15 m ρ c b
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
theorem W16_of (c : Dev nD) (r : Ref sig .tc) (h : ∀ w : Fin cfg1.W, Pipeline.arrRef spec1 w = r → (cfg1.win w).isOut = false) :
    W16 m ρ c (Proc.devRef .tc r) = W15 m ρ c (Proc.devRef .tc r) := by
  by_cases hw : ∃ w : Fin cfg1.W, Pipeline.arrRef spec1 w = r
  · obtain ⟨w, rfl⟩ := hw
    exact (W16_arr m ρ c w).trans (((dat1 (V15 m ρ) c).arrAt_in w (h w rfl) _).trans (A_eq1 (V15 m ρ) c w))
  · exact W16_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W16_args (c : Dev nD) : ∀ a ∈ argRefs, W16 m ρ c (Proc.devRef .tc a) = m ((c : Thread nD τ).loc a) :=
  fun a ha => (W16_of m ρ c a (argsIn1 a ha)).trans (W15_args m ρ c a ha)
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)

def W17 (c : Dev nD) : Valuation τ sig (Elt F) :=
  Pipeline.withArrays spec2 c (W16 m ρ c) fun w => (dat2 (V16 m ρ) c).arrAt w cfg2.N
theorem W17_arr (c : Dev nD) (w : Fin cfg2.W) :
    W17 m ρ c (Proc.devRef .tc (Pipeline.arrRef spec2 w)) = (dat2 (V16 m ρ) c).arrAt w cfg2.N := by
  unfold W17; exact Pipeline.withArrays_arr spec2 launch2.win.arr_inj c _ _ w
theorem W17_of_ne (c : Dev nD) (b : Ref sig .tc) (hb : ∀ w, Pipeline.arrRef spec2 w ≠ b) :
    W17 m ρ c (Proc.devRef .tc b) = W16 m ρ c (Proc.devRef .tc b) := by
  unfold W17; exact Pipeline.withArrays_of_ne spec2 c _ _ b hb
theorem W17_of (c : Dev nD) (r : Ref sig .tc) (h : ∀ w : Fin cfg2.W, Pipeline.arrRef spec2 w = r → (cfg2.win w).isOut = false) :
    W17 m ρ c (Proc.devRef .tc r) = W16 m ρ c (Proc.devRef .tc r) := by
  by_cases hw : ∃ w : Fin cfg2.W, Pipeline.arrRef spec2 w = r
  · obtain ⟨w, rfl⟩ := hw
    exact (W17_arr m ρ c w).trans (((dat2 (V16 m ρ) c).arrAt_in w (h w rfl) _).trans (A_eq2 (V16 m ρ) c w))
  · exact W17_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W17_args (c : Dev nD) : ∀ a ∈ argRefs, W17 m ρ c (Proc.devRef .tc a) = m ((c : Thread nD τ).loc a) :=
  fun a ha => (W17_of m ρ c a (argsIn2 a ha)).trans (W16_args m ρ c a ha)
abbrev V17 : (c : Dev nD) → (b : Ref sig .tc) → Buf (Elt F) ((c : Thread nD τ).loc b) := fun c b => W17 m ρ c b
theorem hF2 (c : Dev nD) (w : Fin cfg2.W) : (dat2 (V16 m ρ) c).arrAt w cfg2.N = V17 m ρ c (Pipeline.arrRef spec2 w) :=
  (W17_arr m ρ c w).symm
theorem hrest2 (c : Dev nD) : ∀ b, b ∉ Finset.univ.image (Pipeline.arrRef spec2) → V17 m ρ c b = V16 m ρ c b :=
  fun b hb => W17_of_ne m ρ c b fun w e => hb (Finset.mem_image.mpr ⟨w, Finset.mem_univ _, e⟩)

abbrev W18 : Dev nD → Valuation τ sig (Elt F) := fun c => StableHlo.after hostOps3 (W17 m ρ c)
theorem W18_of (c : Dev nD) (r : Ref sig .tc) (h : r ∉ hostOps3_W) : W18 m ρ c (Proc.devRef .tc r) = W17 m ρ c (Proc.devRef .tc r) :=
  StableHlo.after_of_writes_sub hostOps3 _ hostOps3_writes h
theorem W18_args (c : Dev nD) : ∀ a ∈ argRefs, W18 m ρ c (Proc.devRef .tc a) = m ((c : Thread nD τ).loc a) :=
  fun a ha => (W18_of m ρ c a (hostOps3_args a ha)).trans (W17_args m ρ c a ha)

theorem W18_main_arg0 (c : Dev nD) : W18 m ρ c (Proc.devRef .tc main_arg0) = m ((c : Thread nD τ).loc main_arg0) :=
  W18_args m ρ c main_arg0 (by decide)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V15 m ρ) c
  | ⟨2, _⟩ => fun c => dat2 (V16 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) (A_eq1 (V15 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V16 m ρ) c).loose
  hwaits := Pipeline.hwaits_of_owed_zero _ _ _ _ L lv 2 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec2 c (V16 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V16 m ρ c) (A_eq2 (V16 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V16 m ρ c) (V17 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .region (reg1 m ρ),
    .region (reg2 m ρ),
    .host (hseg hostOps3 hostOps3_sub hostOps3_fresh (W17 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The run of the program: the argument ends as launched, the result holds what the last stretch
    leaves in its buffer, every counter ends at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_v104) = W18 m ρ c main_v104)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h hz => ⟨(fun c =>
      ⟨(h c _ (mem_uc main_arg0 (by decide))).trans (W18_main_arg0 m ρ c), h c _ (mem_uc main_v104 (by decide))⟩), funext fun g => hz g (.inr (no_unscoped g.2))⟩)

/-- The frame, from the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).1, h.2⟩) (run m ρ)

end Cert.KernelIdeal.Own

end
-- ==== Proof.Consts.lean ====
module

public import Idealize.ShloMosaic.Lib.IdealHost

/-! The float constants of the two programs, as the reals their words denote. -/

@[expose] public section

noncomputable section

namespace Cert.Val

open Idealize.ShloMosaic

theorem c1132396544 : Ideal.ofBits .f32 1132396544#32 = ((255 / 1 : ℝ) : EReal) := by
  simp [Ideal.ofBits, Ideal.ieee, -EReal.coe_mul]; norm_num

theorem c1073741824 : Ideal.ofBits .f32 1073741824#32 = ((2 / 1 : ℝ) : EReal) := by
  simp [Ideal.ofBits, Ideal.ieee, -EReal.coe_mul]; norm_num

theorem c1082130432 : Ideal.ofBits .f32 1082130432#32 = ((4 / 1 : ℝ) : EReal) := by
  simp [Ideal.ofBits, Ideal.ieee, -EReal.coe_mul]; norm_num

theorem c1094713344 : Ideal.ofBits .f32 1094713344#32 = ((12 / 1 : ℝ) : EReal) := by
  simp [Ideal.ofBits, Ideal.ieee, -EReal.coe_mul]; norm_num

theorem c1057803469 : Ideal.ofBits .f32 1057803469#32 = ((9227469 / 16777216 : ℝ) : EReal) := by
  simp [Ideal.ofBits, Ideal.ieee, -EReal.coe_mul]; norm_num

theorem c1054448026 : Ideal.ofBits .f32 1054448026#32 = ((7130317 / 16777216 : ℝ) : EReal) := by
  simp [Ideal.ofBits, Ideal.ieee, -EReal.coe_mul]; norm_num

theorem c1084227584 : Ideal.ofBits .f32 1084227584#32 = ((5 / 1 : ℝ) : EReal) := by
  simp [Ideal.ofBits, Ideal.ieee, -EReal.coe_mul]; norm_num

theorem c1090519040 : Ideal.ofBits .f32 1090519040#32 = ((8 / 1 : ℝ) : EReal) := by
  simp [Ideal.ofBits, Ideal.ieee, -EReal.coe_mul]; norm_num

theorem c1088421888 : Ideal.ofBits .f32 1088421888#32 = ((7 / 1 : ℝ) : EReal) := by
  simp [Ideal.ofBits, Ideal.ieee, -EReal.coe_mul]; norm_num

theorem c1077936128 : Ideal.ofBits .f32 1077936128#32 = ((3 / 1 : ℝ) : EReal) := by
  simp [Ideal.ofBits, Ideal.ieee, -EReal.coe_mul]; norm_num

theorem c1103101952 : Ideal.ofBits .f32 1103101952#32 = ((24 / 1 : ℝ) : EReal) := by
  simp [Ideal.ofBits, Ideal.ieee, -EReal.coe_mul]; norm_num

theorem c1123024896 : Ideal.ofBits .f32 1123024896#32 = ((120 / 1 : ℝ) : EReal) := by
  simp [Ideal.ofBits, Ideal.ieee, -EReal.coe_mul]; norm_num

theorem c1048576000 : Ideal.ofBits .f32 1048576000#32 = ((1 / 4 : ℝ) : EReal) := by
  simp [Ideal.ofBits, Ideal.ieee, -EReal.coe_mul]; norm_num

theorem c3200253952 : Ideal.ofBits .f32 3200253952#32 = ((-3 / 8 : ℝ) : EReal) := by
  simp [Ideal.ofBits, Ideal.ieee, -EReal.coe_mul]; norm_num

theorem c1040187392 : Ideal.ofBits .f32 1040187392#32 = ((1 / 8 : ℝ) : EReal) := by
  simp [Ideal.ofBits, Ideal.ieee, -EReal.coe_mul]; norm_num

theorem c1067450368 : Ideal.ofBits .f32 1067450368#32 = ((5 / 4 : ℝ) : EReal) := by
  simp [Ideal.ofBits, Ideal.ieee, -EReal.coe_mul]; norm_num

theorem c3208642560 : Ideal.ofBits .f32 3208642560#32 = ((-3 / 4 : ℝ) : EReal) := by
  simp [Ideal.ofBits, Ideal.ieee, -EReal.coe_mul]; norm_num

theorem c3204448256 : Ideal.ofBits .f32 3204448256#32 = ((-1 / 2 : ℝ) : EReal) := by
  simp [Ideal.ofBits, Ideal.ieee, -EReal.coe_mul]; norm_num

theorem c3219128320 : Ideal.ofBits .f32 3219128320#32 = ((-7 / 4 : ℝ) : EReal) := by
  simp [Ideal.ofBits, Ideal.ieee, -EReal.coe_mul]; norm_num

theorem c1074790400 : Ideal.ofBits .f32 1074790400#32 = ((9 / 4 : ℝ) : EReal) := by
  simp [Ideal.ofBits, Ideal.ieee, -EReal.coe_mul]; norm_num

theorem c1059061760 : Ideal.ofBits .f32 1059061760#32 = ((5 / 8 : ℝ) : EReal) := by
  simp [Ideal.ofBits, Ideal.ieee, -EReal.coe_mul]; norm_num

theorem c3226992640 : Ideal.ofBits .f32 3226992640#32 = ((-27 / 8 : ℝ) : EReal) := by
  simp [Ideal.ofBits, Ideal.ieee, -EReal.coe_mul]; norm_num

theorem c1166016512 : Ideal.ofBits .f32 1166016512#32 = ((4096 / 1 : ℝ) : EReal) := by
  simp [Ideal.ofBits, Ideal.ieee, -EReal.coe_mul]; norm_num

theorem c1148846080 : Ideal.ofBits .f32 1148846080#32 = ((1000 / 1 : ℝ) : EReal) := by
  simp [Ideal.ofBits, Ideal.ieee, -EReal.coe_mul]; norm_num

theorem c1115684864 : Ideal.ofBits .f32 1115684864#32 = ((64 / 1 : ℝ) : EReal) := by
  simp [Ideal.ofBits, Ideal.ieee, -EReal.coe_mul]; norm_num

theorem c1132462080 : Ideal.ofBits .f32 1132462080#32 = ((256 / 1 : ℝ) : EReal) := by
  simp [Ideal.ofBits, Ideal.ieee, -EReal.coe_mul]; norm_num

theorem c786163455 : Ideal.ofBits .f32 786163455#32 = ((14411519 / 144115188075855872 : ℝ) : EReal) := by
  simp [Ideal.ofBits, Ideal.ieee, -EReal.coe_mul]; norm_num

theorem c1031733248 : Ideal.ofBits .f32 1031733248#32 = ((255 / 4096 : ℝ) : EReal) := by
  simp [Ideal.ofBits, Ideal.ieee, -EReal.coe_mul]; norm_num

theorem c3204972544 : Ideal.ofBits .f32 3204972544#32 = ((-17 / 32 : ℝ) : EReal) := by
  simp [Ideal.ofBits, Ideal.ieee, -EReal.coe_mul]; norm_num

theorem c1089536000 : Ideal.ofBits .f32 1089536000#32 = ((241 / 32 : ℝ) : EReal) := by
  simp [Ideal.ofBits, Ideal.ieee, -EReal.coe_mul]; norm_num

theorem c1140817920 : Ideal.ofBits .f32 1140817920#32 = ((511 / 1 : ℝ) : EReal) := by
  simp [Ideal.ofBits, Ideal.ieee, -EReal.coe_mul]; norm_num

theorem c1132494848 : Ideal.ofBits .f32 1132494848#32 = ((257 / 1 : ℝ) : EReal) := by
  simp [Ideal.ofBits, Ideal.ieee, -EReal.coe_mul]; norm_num

end Cert.Val

end

end
-- ==== Proof.Hist.lean ====
module

public import proofs.«01_k».proof.Proof.Consts

/-! The clipped, redistributed and accumulated soft histogram of one tile, as one function of the tile's pixels. -/

@[expose] public section

noncomputable section

namespace Cert.Val

open Idealize.ShloMosaic

/-- The soft weight of a pixel in a bin. -/
def soft (t : EReal) (i : Fin 256) : EReal :=
  Ideal.exp (Ideal.ofBits .f32 3204448256#32
    * (((t - ((i.val : ℝ) : EReal) * ((1 / 255 : ℝ) : EReal)) * Ideal.ofBits .f32 1148846080#32)
      * ((t - ((i.val : ℝ) : EReal) * ((1 / 255 : ℝ) : EReal)) * Ideal.ofBits .f32 1148846080#32)))

/-- The mean soft weight of a bin. -/
def mean (tile : Fin 4096 → EReal) (i : Fin 256) : EReal :=
  Ideal.div (∑ x, soft (tile x) i) (Ideal.ofBits .f32 1166016512#32)

/-- The clipped count of a bin. -/
def clip (tile : Fin 4096 → EReal) (i : Fin 256) : EReal :=
  min (Ideal.div (mean tile i) (∑ x, mean tile x + Ideal.ofBits .f32 786163455#32) * Ideal.ofBits .f32 1166016512#32)
    (Ideal.ofBits .f32 1115684864#32)

/-- The count the clipping removed. -/
def excess (tile : Fin 4096 → EReal) : EReal := Ideal.ofBits .f32 1166016512#32 - ∑ x, clip tile x

/-- The part of the removed count that does not divide evenly between the bins. -/
def resid (tile : Fin 4096 → EReal) : EReal :=
  let r := Ideal.remf (excess tile) (Ideal.ofBits .f32 1132462080#32)
  if r < 0 then r + Ideal.ofBits .f32 1132462080#32 else r

/-- The redistributed count of a bin. -/
def share (tile : Fin 4096 → EReal) (i : Fin 256) : EReal :=
  clip tile i + Ideal.div (excess tile - resid tile) (Ideal.ofBits .f32 1132462080#32)
    + (if ((i.val : ℝ) : EReal) < resid tile then 1 else 0)

/-- The scaled accumulated count, clamped to the range of the bins. -/
def cdf (tile : Fin 4096 → EReal) (j : Fin 256) : EReal :=
  min (Ideal.ofBits .f32 1132396544#32)
    (max 0 ((∑ i : Fin 256, if i.val ≤ j.val then share tile i else 0) * ((255 / 4096 : ℝ) : EReal)))

theorem cdf_real (tile : Fin 4096 → EReal) (j : Fin 256) : ∃ r : ℝ, cdf tile j = (r : EReal) := by
  have h0 : (0 : EReal) ≤ cdf tile j :=
    le_min (by rw [c1132396544, ← EReal.coe_zero, EReal.coe_le_coe_iff]; norm_num) (le_max_left _ _)
  have h1 : cdf tile j ≤ ((255 / 1 : ℝ) : EReal) := (min_le_left _ _).trans (le_of_eq c1132396544)
  exact ⟨(cdf tile j).toReal, (EReal.coe_toReal (fun h => by rw [h] at h1; exact absurd h1 (by simp))
    (fun h => by rw [h] at h0; exact absurd h0 (by simp))).symm⟩

theorem ofNat_toInt (i : ℕ) (h : i < 2 ^ 31) : (BitVec.ofNat 32 i).toInt = (i : ℤ) := by
  rw [BitVec.toInt_eq_toNat_cond, BitVec.toNat_ofNat, Nat.mod_eq_of_lt (by omega), if_pos (by omega)]

theorem sitofp_ofNat (i : ℕ) (h : i < 2 ^ 31) :
    FloatOps.sitofp (F := Ideal) .f32 (BitVec.ofNat 32 i) = ((i : ℝ) : EReal) := by
  show (((BitVec.ofNat 32 i).toInt : ℝ) : EReal) = _
  rw [ofNat_toInt i h]; push_cast; rfl

/-- A word of 256 bins as a float. -/
theorem sitofp_bin (i : Fin 256) : FloatOps.sitofp (F := Ideal) .f32 (BitVec.ofNat 32 i.val) = ((i.val : ℝ) : EReal) :=
  sitofp_ofNat _ (by omega)

theorem c255_4096 : Ideal.ofBits .f32 1031733248#32 = ((255 / 4096 : ℝ) : EReal) := c1031733248

end Cert.Val

end

end
-- ==== Proof.Spline.lean ====
module

public import proofs.«01_k».proof.Proof.Consts

/-! The quintic spline, as the two programs spell it, and its meaning over the reals. -/

@[expose] public section

set_option maxRecDepth 16384

noncomputable section

namespace Cert.Val

open Idealize.ShloMosaic

/-- The spline of a non-negative distance, in the piecewise form. -/
def splX (x : EReal) : EReal :=
  if x < 1 then
    Ideal.ofBits .f32 1057803469#32 - Ideal.div (x * x) (Ideal.ofBits .f32 1073741824#32)
      + Ideal.div (x * x * (x * x)) (Ideal.ofBits .f32 1082130432#32)
      - Ideal.div (x * x * (x * x) * x) (Ideal.ofBits .f32 1094713344#32)
  else if x < Ideal.ofBits .f32 1073741824#32 then
    Ideal.ofBits .f32 1054448026#32
      + Ideal.div (Ideal.ofBits .f32 1084227584#32 * x) (Ideal.ofBits .f32 1090519040#32)
      - Ideal.div (Ideal.ofBits .f32 1088421888#32 * (x * x)) (Ideal.ofBits .f32 1082130432#32)
      + Ideal.div (Ideal.ofBits .f32 1084227584#32 * (x * x) * x) (Ideal.ofBits .f32 1082130432#32)
      - Ideal.div (Ideal.ofBits .f32 1077936128#32 * (x * x * (x * x))) (Ideal.ofBits .f32 1090519040#32)
      + Ideal.div (x * x * (x * x) * x) (Ideal.ofBits .f32 1103101952#32)
  else if x < Ideal.ofBits .f32 1077936128#32 then
    Ideal.div ((Ideal.ofBits .f32 1077936128#32 - x)
        * ((Ideal.ofBits .f32 1077936128#32 - x) * (Ideal.ofBits .f32 1077936128#32 - x)
          * ((Ideal.ofBits .f32 1077936128#32 - x) * (Ideal.ofBits .f32 1077936128#32 - x))))
      (Ideal.ofBits .f32 1123024896#32)
  else 0

/-- The spline of a non-negative distance, as one polynomial whose coefficients are chosen by the distance. -/
def horX (a b c e : EReal) (x : EReal) : EReal :=
  if x < Ideal.ofBits .f32 1077936128#32 then
    (((((if x < 1 then a else if x < Ideal.ofBits .f32 1073741824#32 then b else c) * x
      + if x < 1 then Ideal.ofBits .f32 1048576000#32
        else if x < Ideal.ofBits .f32 1073741824#32 then Ideal.ofBits .f32 3200253952#32
        else Ideal.ofBits .f32 1040187392#32) * x
      + if x < 1 then 0
        else if x < Ideal.ofBits .f32 1073741824#32 then Ideal.ofBits .f32 1067450368#32
        else Ideal.ofBits .f32 3208642560#32) * x
      + if x < 1 then Ideal.ofBits .f32 3204448256#32
        else if x < Ideal.ofBits .f32 1073741824#32 then Ideal.ofBits .f32 3219128320#32
        else Ideal.ofBits .f32 1074790400#32) * x
      + if x < 1 then 0
        else if x < Ideal.ofBits .f32 1073741824#32 then Ideal.ofBits .f32 1059061760#32
        else Ideal.ofBits .f32 3226992640#32) * x
      + if x < 1 then Ideal.ofBits .f32 1057803469#32
        else if x < Ideal.ofBits .f32 1073741824#32 then Ideal.ofBits .f32 1054448026#32
        else e
  else 0

/-- The spline of a non-negative distance over the reals. -/
def sr (x : ℝ) : ℝ :=
  if x < 1 then 9227469 / 16777216 - x ^ 2 / 2 + x ^ 4 / 4 - x ^ 5 / 12
  else if x < 2 then
    7130317 / 16777216 + 5 * x / 8 - 7 * x ^ 2 / 4 + 5 * x ^ 3 / 4 - 3 * x ^ 4 / 8 + x ^ 5 / 24
  else if x < 3 then (3 - x) ^ 5 / 120 else 0

theorem sr_of_le {x : ℝ} (h : 3 ≤ x) : sr x = 0 := by
  unfold sr; rw [if_neg (by linarith), if_neg (by linarith), if_neg (by linarith)]

theorem ltc (x y : ℝ) : ((x : EReal) < (y : EReal)) = (x < y) := propext EReal.coe_lt_coe_iff

theorem divc (x y : ℝ) (h : y ≠ 0) : Ideal.div (x : EReal) (y : EReal) = ((x / y : ℝ) : EReal) := by
  rw [Ideal.div_coe h, ← EReal.coe_mul]; congr 1; field_simp

theorem splX_coe (x : ℝ) : splX (x : EReal) = (sr x : EReal) := by
  unfold splX sr
  simp only [c1057803469, c1073741824, c1082130432, c1094713344, c1054448026, c1084227584, c1090519040,
    c1088421888, c1077936128, c1103101952, c1123024896]
  rw [← EReal.coe_one, ← EReal.coe_zero]
  simp only [ltc, ← EReal.coe_mul, ← EReal.coe_sub]
  rw [divc _ _ (by norm_num), divc _ _ (by norm_num), divc _ _ (by norm_num), divc _ _ (by norm_num),
    divc _ _ (by norm_num), divc _ _ (by norm_num), divc _ _ (by norm_num), divc _ _ (by norm_num),
    divc _ _ (by norm_num)]
  simp only [← EReal.coe_add, ← EReal.coe_sub]
  norm_num only
  split_ifs <;> (congr 1; try ring)

theorem horX_coe (x : ℝ) :
    horX ((-1 / 12 : ℝ) : EReal) ((1 / 24 : ℝ) : EReal) ((-1 / 120 : ℝ) : EReal) ((81 / 40 : ℝ) : EReal) (x : EReal)
      = (sr x : EReal) := by
  unfold horX sr
  simp only [c1057803469, c1073741824, c1054448026, c1077936128, c1048576000, c3200253952, c1040187392, c1067450368,
    c3208642560, c3204448256, c3219128320, c1074790400, c1059061760, c3226992640]
  rw [← EReal.coe_one, ← EReal.coe_zero]
  simp only [ltc]
  norm_num only
  split_ifs <;> first
    | (exfalso; linarith)
    | (simp only [← EReal.coe_mul, ← EReal.coe_add]; congr 1; ring)
    | rfl

theorem absc (x : ℝ) : FloatOps.absf (F := Ideal) (φ := .f32) (x : EReal) = ((|x| : ℝ) : EReal) := by
  rw [Ideal.absf_def, ← EReal.coe_neg, ← EReal.coe_strictMono.monotone.map_max]; rfl

/-- The spline of a signed distance. -/
def br (t : ℝ) : ℝ := sr |t|

theorem br_of_le {t : ℝ} (h : 3 ≤ |t|) : br t = 0 := sr_of_le h

/-- Reflection of a node into `0 … N - 1`. -/
def refl (N : ℕ) (z : ℤ) : ℕ :=
  if (N : ℤ) ≤ z % (2 * N) then (2 * N - 1 - z % (2 * N)).toNat else (z % (2 * N)).toNat

/-- Interpolation over the six nodes around `f`, reflected at the ends, is the sum over all the nodes and the four
    reflected ones. -/
theorem interp (f : ℝ) (h0 : 0 ≤ f) (h1 : f ≤ 255) (v : ℕ → ℝ) :
    ∑ i : Fin 6, br (f - ((⌊f⌋ - 2 + (i.val : ℤ) : ℤ) : ℝ)) * v (refl 256 (⌊f⌋ - 2 + (i.val : ℤ)))
      = ∑ k : Fin 256, br (f - (k.val : ℝ)) * v k.val
        + (br (f + 1) * v 0 + br (f + 2) * v 1 + br (f - 256) * v 255 + br (f - 257) * v 254) := by
  obtain ⟨b, hb⟩ : ∃ b : ℕ, ⌊f⌋ = (b : ℤ) := ⟨⌊f⌋.toNat, (Int.toNat_of_nonneg (Int.floor_nonneg.mpr h0)).symm⟩
  have hb1 : (b : ℝ) ≤ f := by have := Int.floor_le f; rw [hb] at this; exact_mod_cast this
  have hb2 : f < (b : ℝ) + 1 := by have := Int.lt_floor_add_one f; rw [hb] at this; exact_mod_cast this
  have hb3 : b ≤ 255 := by
    have : (b : ℝ) < 256 := by linarith
    have : b < 256 := by exact_mod_cast this
    omega
  let G : ℕ → ℝ := fun k => br (f - (((k : ℤ) - 2 : ℤ) : ℝ)) * v (refl 256 ((k : ℤ) - 2))
  have hL : ∑ i : Fin 6, br (f - ((⌊f⌋ - 2 + (i.val : ℤ) : ℤ) : ℝ)) * v (refl 256 (⌊f⌋ - 2 + (i.val : ℤ)))
      = ∑ k ∈ Finset.Ico b (b + 6), G k := by
    rw [Finset.sum_Ico_eq_sum_range, Nat.add_sub_cancel_left, Finset.sum_range]
    refine Finset.sum_congr rfl fun i _ => ?_
    have : ⌊f⌋ - 2 + (i.val : ℤ) = ((b + i.val : ℕ) : ℤ) - 2 := by rw [hb]; push_cast; ring
    rw [this]
  have hS : ∑ k ∈ Finset.Ico b (b + 6), G k = ∑ k ∈ Finset.range 261, G k := by
    refine Finset.sum_subset (fun k hk => ?_) fun k _ hk => ?_
    · simp only [Finset.mem_Ico, Finset.mem_range] at *; omega
    · simp only [Finset.mem_Ico, not_and_or, not_le, not_lt] at hk
      have : br (f - (((k : ℤ) - 2 : ℤ) : ℝ)) = 0 := by
        apply br_of_le
        push_cast
        rcases hk with hk | hk
        · have : (k : ℝ) + 1 ≤ b := by exact_mod_cast hk
          exact le_trans (by linarith) (le_abs_self _)
        · have : (b : ℝ) + 6 ≤ k := by exact_mod_cast hk
          exact le_trans (by linarith) (neg_le_abs _)
      show br _ * _ = 0
      rw [this, zero_mul]
  have g258 : br (f - (((260 : ℕ) : ℤ) - 2 : ℤ)) = 0 := by
    apply br_of_le; push_cast
    exact le_trans (by linarith) (neg_le_abs _)
  have hR : ∑ k ∈ Finset.range 261, G k = ∑ k ∈ Finset.range 256, G (k + 2) + (G 1 + G 0 + G 258 + G 259) := by
    rw [Finset.sum_range_succ, Finset.sum_range_succ, Finset.sum_range_succ, Finset.sum_range_succ',
      Finset.sum_range_succ']
    have : G 260 = 0 := by show br _ * _ = 0; rw [g258, zero_mul]
    rw [this]; ring
  rw [hL, hS, hR, Finset.sum_range]
  refine congrArg₂ (· + ·) (Finset.sum_congr rfl fun k _ => ?_) ?_
  · have e : (((k.val + 2 : ℕ) : ℤ) - 2) = (k.val : ℤ) := by push_cast; ring
    have r : refl 256 (k.val : ℤ) = k.val := by
      have := k.isLt
      unfold refl; rw [if_neg (by omega)]; omega
    show br (f - ((((k.val + 2 : ℕ) : ℤ) - 2 : ℤ) : ℝ)) * v (refl 256 (((k.val + 2 : ℕ) : ℤ) - 2)) = _
    rw [e, r]; push_cast; rfl
  · have r1 : refl 256 (((1 : ℕ) : ℤ) - 2) = 0 := by decide
    have r0 : refl 256 (((0 : ℕ) : ℤ) - 2) = 1 := by decide
    have r2 : refl 256 (((258 : ℕ) : ℤ) - 2) = 255 := by decide
    have r3 : refl 256 (((259 : ℕ) : ℤ) - 2) = 254 := by decide
    show br (f - ((((1 : ℕ) : ℤ) - 2 : ℤ) : ℝ)) * v (refl 256 (((1 : ℕ) : ℤ) - 2))
      + br (f - ((((0 : ℕ) : ℤ) - 2 : ℤ) : ℝ)) * v (refl 256 (((0 : ℕ) : ℤ) - 2))
      + br (f - ((((258 : ℕ) : ℤ) - 2 : ℤ) : ℝ)) * v (refl 256 (((258 : ℕ) : ℤ) - 2))
      + br (f - ((((259 : ℕ) : ℤ) - 2 : ℤ) : ℝ)) * v (refl 256 (((259 : ℕ) : ℤ) - 2)) = _
    rw [r0, r1, r2, r3]; push_cast
    norm_num only
    ring_nf

/-- A sum over the 64 tiles is a sum over their rows and columns. -/
theorem sum64 (F : ℕ → ℕ → ℝ) : ∑ v : Fin 64, F (v.val / 8) (v.val % 8) = ∑ g : Fin 8, ∑ h : Fin 8, F g.val h.val := by
  rw [← Finset.sum_product', Finset.univ_product_univ]
  refine (Fintype.sum_equiv (finProdFinEquiv (m := 8) (n := 8)) _ _ fun p => ?_).symm
  show _ = F ((p.2.val + 8 * p.1.val) / 8) ((p.2.val + 8 * p.1.val) % 8)
  have := p.1.isLt; have := p.2.isLt
  congr 1 <;> omega

/-- The weight a row of the spatial table gives the tile row `g`: the weights of the nodes that reflect to it. -/
def wt (w : Fin 6 → ℝ) (r : Fin 6 → ℕ) (g : ℕ) : ℝ := ∑ i : Fin 6, if r i = g then w i else 0

theorem wt_sum (w : Fin 6 → ℝ) (r : Fin 6 → ℕ) (h : ∀ i, r i < 8) (F : ℕ → ℝ) :
    ∑ g : Fin 8, F g.val * wt w r g.val = ∑ i : Fin 6, F (r i) * w i := by
  simp only [wt, Finset.mul_sum]
  rw [Finset.sum_comm]
  refine Finset.sum_congr rfl fun i _ => ?_
  rw [Finset.sum_eq_single (⟨r i, h i⟩ : Fin 8)]
  · simp
  · intro g _ hne
    rw [if_neg (fun hh : r i = g.val => hne (Fin.ext hh.symm)), mul_zero]
  · simp

theorem spatial (w₁ w₂ : Fin 6 → ℝ) (r₁ r₂ : Fin 6 → ℕ) (h₁ : ∀ i, r₁ i < 8) (h₂ : ∀ i, r₂ i < 8) (c : ℕ → ℝ) :
    ∑ v : Fin 64, c v.val * (wt w₁ r₁ (v.val / 8) * wt w₂ r₂ (v.val % 8))
      = ∑ j : Fin 6, ∑ k : Fin 6, c (r₁ j * 8 + r₂ k) * (w₁ j * w₂ k) := by
  have e : ∀ v : Fin 64, c v.val * (wt w₁ r₁ (v.val / 8) * wt w₂ r₂ (v.val % 8))
      = (fun g h => c (g * 8 + h) * (wt w₁ r₁ g * wt w₂ r₂ h)) (v.val / 8) (v.val % 8) := fun v => by
    show _ = c (v.val / 8 * 8 + v.val % 8) * _
    congr 2; omega
  refine (Finset.sum_congr rfl fun v _ => e v).trans
    ((sum64 fun g h => c (g * 8 + h) * (wt w₁ r₁ g * wt w₂ r₂ h)).trans ?_)
  have e1 : ∀ g : Fin 8, ∑ h : Fin 8, c (g.val * 8 + h.val) * (wt w₁ r₁ g.val * wt w₂ r₂ h.val)
      = (∑ h : Fin 8, c (g.val * 8 + h.val) * wt w₂ r₂ h.val) * wt w₁ r₁ g.val := fun g => by
    rw [Finset.sum_mul]; exact Finset.sum_congr rfl fun h _ => by ring
  refine (Finset.sum_congr rfl fun g _ => e1 g).trans
    ((wt_sum w₁ r₁ h₁ fun g => ∑ h : Fin 8, c (g * 8 + h.val) * wt w₂ r₂ h.val).trans ?_)
  refine Finset.sum_congr rfl fun j _ => ?_
  show (∑ h : Fin 8, c (r₁ j * 8 + h.val) * wt w₂ r₂ h.val) * w₁ j = _
  rw [wt_sum w₂ r₂ h₂ fun h => c (r₁ j * 8 + h), Finset.sum_mul]
  exact Finset.sum_congr rfl fun k _ => by ring

/-- The two programs' element, over the reals. -/
theorem element (f : ℝ) (h0 : 0 ≤ f) (h1 : f ≤ 255) (w₁ w₂ : Fin 6 → ℝ) (r₁ r₂ : Fin 6 → ℕ) (h₁ : ∀ i, r₁ i < 8)
    (h₂ : ∀ i, r₂ i < 8) (V : ℕ → ℕ → ℝ) :
    ∑ v : Fin 64, (∑ k : Fin 256, br (f - (k.val : ℝ)) * V v.val k.val
        + (br (f + 1) * V v.val 0 + br (f + 2) * V v.val 1 + br (f - 256) * V v.val 255 + br (f - 257) * V v.val 254))
        * (wt w₁ r₁ (v.val / 8) * wt w₂ r₂ (v.val % 8))
      = ∑ i : Fin 6, ∑ j : Fin 6, ∑ k : Fin 6, V (r₁ j * 8 + r₂ k) (refl 256 (⌊f⌋ - 2 + (i.val : ℤ)))
          * (br (f - ((⌊f⌋ - 2 + (i.val : ℤ) : ℤ) : ℝ)) * w₁ j * w₂ k) := by
  refine (Finset.sum_congr rfl fun v _ => by rw [← interp f h0 h1 (V v.val)]).trans ?_
  refine (spatial w₁ w₂ r₁ r₂ h₁ h₂ fun v => ∑ i : Fin 6, br (f - ((⌊f⌋ - 2 + (i.val : ℤ) : ℤ) : ℝ))
    * V v (refl 256 (⌊f⌋ - 2 + (i.val : ℤ)))).trans ?_
  simp only [Finset.sum_mul]
  rw [Finset.sum_congr rfl fun j _ => Finset.sum_comm, Finset.sum_comm]
  exact Finset.sum_congr rfl fun i _ => Finset.sum_congr rfl fun j _ => Finset.sum_congr rfl fun k _ => by ring

end Cert.Val

end

end
-- ==== Proof.KReg.lean ====
module

public import proofs.«01_k».proof.Proof.FramePI
public import proofs.«01_k».proof.Proof.Hist
public import proofs.«01_k».proof.Proof.Spline
public import Idealize.ShloMosaic.Lib.Pointwise
public import Idealize.ShloMosaic.Lib.Pipeline.ValueKit

/-! The arrays the kernel's three regions leave, as functions of the arrays they read. -/

@[expose] public section

set_option maxRecDepth 16384

noncomputable section

namespace Cert.KernelIdeal.Val

open Idealize.ShloMosaic Cert.KernelIdeal Cert.KernelIdeal.Gen Cert.KernelIdeal.Own Cert.Val

/-- The spline of a non-negative distance at the named coefficients. -/
def hX (x : EReal) : EReal :=
  horX (Named.named (F := Ideal) (φ := .f32) κ "cm1_12" 3182078635#32) (Named.named (F := Ideal) (φ := .f32) κ "c1_24" 1026206379#32)
    (Named.named (F := Ideal) (φ := .f32) κ "cm1_120" 3154675849#32) (Named.named (F := Ideal) (φ := .f32) κ "c81_40" 1073846682#32) x

theorem hX_coe (x : ℝ) : hX (x : EReal) = ((sr x : ℝ) : EReal) := horX_coe x

theorem n255 : Named.named (F := Ideal) (φ := .f32) κ "c1_255" 998277249#32 = ((1 / 255 : ℝ) : EReal) := rfl

theorem idx0 : ∀ t : Fin cfg0.N, win0_0.index t = ![t.val, 0, 0] ∧ win0_1.index t = ![t.val, 0, 0] :=
  (by decide +kernel : ∀ t : Fin grid0.N, _)

/-- The pixels of a tile block, in row-major order. -/
def tl (v0 : Vec Ideal S1x8x512 .f32) (k : Fin 4096) : EReal :=
  v0 (ix3 0 ⟨k.val / 512, by omega⟩ ⟨k.val % 512, by omega⟩)

theorem pay2 (v0 : Vec Ideal S1x8x512 .f32) (k : Fin 256) : k0_pay2 v0 (ix2 0 k) = clip (tl v0) k := by
  unfold k0_pay2
  pointwise []
  simp only [n255, sitofp_bin, Finset.univ_unique, Finset.sum_singleton]
  rfl

theorem pay3 (v0 : Vec Ideal S1x8x512 .f32) : k0_pay3 v0 = excess (tl v0) := by
  unfold k0_pay3
  pointwise []
  simp only [Finset.univ_unique, Finset.sum_singleton]
  exact congrArg _ (Finset.sum_congr rfl fun x _ => pay2 v0 x)

theorem pay4 (v0 : Vec Ideal S1x8x512 .f32) :
    k0_pay4 v0 = Ideal.remf (excess (tl v0)) (Ideal.ofBits .f32 1132462080#32) := by
  unfold k0_pay4
  rw [pay3]
  rfl

theorem bit_ite (p : Prop) [Decidable p] :
    FloatOps.sitofp (F := Ideal) .f32 (BitVec.setWidth 32 (BitVec.ofBool (decide p))) = if p then 1 else 0 := by
  by_cases h : p
  · rw [if_pos h, decide_eq_true h]; show (((1 : ℤ) : ℝ) : EReal) = 1; norm_num
  · rw [if_neg h, decide_eq_false h]; show (((0 : ℤ) : ℝ) : EReal) = 0; norm_num

theorem sel_resid (r : EReal) :
    Scalar.select (Scalar.andi (Scalar.xori (BitVec.ofBool (decide (r < 0)))
        (BitVec.ofBool (decide (Ideal.ofBits FTy.f32 1132462080#32 < 0)))) (BitVec.ofBool (decide (r ≠ 0))))
      (r + Ideal.ofBits FTy.f32 1132462080#32) r = if r < 0 then r + Ideal.ofBits FTy.f32 1132462080#32 else r := by
  have h : ¬ Ideal.ofBits FTy.f32 1132462080#32 < 0 := by
    rw [c1132462080, ← EReal.coe_zero, EReal.coe_lt_coe_iff]; norm_num
  rw [decide_eq_false h]
  by_cases h1 : r < 0
  · rw [if_pos h1, decide_eq_true h1, decide_eq_true (ne_of_lt h1)]; rfl
  · rw [if_neg h1, decide_eq_false h1]
    by_cases h2 : r ≠ 0
    · rw [decide_eq_true h2]; rfl
    · rw [decide_eq_false h2]; rfl

theorem sle_bin (x j : Fin 256) :
    FloatOps.sitofp (F := Ideal) .f32 (BitVec.setWidth 32 (IntOp.cmpi CmpIPredicate.sle (BitVec.ofNat 32 x.val) (BitVec.ofNat 32 j.val)))
      = if x.val ≤ j.val then 1 else 0 := by
  have h : IntOp.cmpi CmpIPredicate.sle (BitVec.ofNat 32 x.val) (BitVec.ofNat 32 j.val) = BitVec.ofBool (decide (x.val ≤ j.val)) := by
    show BitVec.ofBool (decide ((BitVec.ofNat 32 x.val).toInt ≤ (BitVec.ofNat 32 j.val).toInt)) = _
    rw [ofNat_toInt _ (by omega), ofNat_toInt _ (by omega)]
    simp only [Nat.cast_le]
  rw [h]
  exact bit_ite _

theorem pay1 (v0 : Vec Ideal S1x8x512 .f32) (j : Fin 256) :
    k0_pay1 (k0_pay2 v0) (k0_pay3 v0) (FloatOps.ofBits FTy.f32 1132462080#32) (k0_pay4 v0)
      (Scalar.cmpf CmpFPredicate.one (k0_pay4 v0) (FloatOps.ofBits FTy.f32 0#32))
      (Scalar.cmpf CmpFPredicate.olt (k0_pay4 v0) (FloatOps.ofBits FTy.f32 0#32))
      (Scalar.cmpf (F := Ideal) CmpFPredicate.olt (FloatOps.ofBits FTy.f32 1132462080#32) (FloatOps.ofBits FTy.f32 0#32))
      (ix3 0 0 j) = cdf (tl v0) j := by
  unfold k0_pay1
  pointwise []
  rw [pay3, pay4]
  simp only [pay2, sel_resid, sle_bin, bit_ite, sitofp_bin, mul_ite, mul_one, mul_zero, c255_4096]
  rfl

variable (V : Dev nD → (r : Ref sig .tc) → r.ty.Contents (Elt Ideal))

/-- The pixels of tile `T` in the array of tiles. -/
def tileA (A : S128x8x512.Idx → EReal) (T : Fin 128) (k : Fin 4096) : EReal :=
  A (ix3 T ⟨k.val / 512, by omega⟩ ⟨k.val % 512, by omega⟩)

/-- The first region's array: the accumulated counts of every tile. -/
def G0 (A : S128x8x512.Idx → EReal) (i : S128x1x256.Idx) : EReal := cdf (tileA A (i 0)) (i 2)

theorem arr0 (c : Dev nD) : (dat0 V c).arrAt 1 cfg0.N = G0 (V c main_v2) := by
  refine (dat0 V c).arrAt_eq_of_covers 1 _ (by decide +kernel) fun t _ y => ?_
  blk_simp
  rw [after0_1]; unfold out0_1; frame_out
  idx_vars y
  obtain rfl : y0 = 0 := Subsingleton.elim _ _
  obtain rfl : y1 = 0 := Subsingleton.elim _ _
  rw [pay1]
  unfold G0
  have e : ((View.whole main_v3).slice (win0_1.rect t)).emb (ix3 0 0 y2) = ix3 t 0 y2 := by
    blk_ext [(idx0 t).2]
  rw [e]
  refine congrArg (fun T => cdf T y2) (funext fun k => ?_)
  unfold tl tileA
  blk_point [iblk0, (idx0 t).1]

/-! The second region. -/

theorem pay2a (v0 : Vec Ideal S1x8x512 .f32) (r : Fin 8) (q : Fin 512) :
    k1_pay2 v0 (ix2 r q) = v0 (ix3 0 r q) * Ideal.ofBits .f32 1132396544#32 := by
  pointwise [k1_pay2]

theorem pay11 (v0 : Vec Ideal S1x8x512 .f32) (x1 : Vec Ideal S1x64x256 .f32) (r : Fin 8) (q : Fin 512) (v : Fin 64) (a : Fin 4096)
    (ha : a.val = r.val * 512 + q.val) :
    k1_pay11 (k1_pay3 v0) (k1_pay4 v0) (k1_pay5 v0) (k1_pay6 v0) (k1_pay7 v0) (k1_pay8 v0) (k1_pay9 v0) (k1_pay10 v0) x1 (ix2 a v)
      = ∑ k : Fin 256, hX (FloatOps.absf (F := Ideal) (φ := .f32) (v0 (ix3 0 r q) * Ideal.ofBits .f32 1132396544#32 - ((k.val : ℝ) : EReal)))
          * x1 (ix3 0 v k) := by
  have h1 : (⟨a.val / 512, by omega⟩ : Fin 8) = r := Fin.ext (by show a.val / 512 = r.val; omega)
  have h2 : (⟨a.val % 512, by omega⟩ : Fin 512) = q := Fin.ext (by show a.val % 512 = q.val; omega)
  pointwise [k1_pay11, k1_pay10, k1_pay9, k1_pay8, k1_pay7, k1_pay6, k1_pay5, k1_pay4, k1_pay3]
  simp only [h1, h2, pay2a, sitofp_bin]
  rfl

theorem pay17 (v3 : FVec Ideal S8x512 .f32) (r : Fin 8) (q : Fin 512) :
    k1_pay17 (k1_pay12 v3) (k1_pay13 v3) (k1_pay14 v3) (k1_pay15 v3) (k1_pay16 v3) (FloatOps.ofBits .f32 1090519040#32) (ix2 r q)
      = splX (FloatOps.absf (F := Ideal) (φ := .f32) (v3 (ix2 r q) + 1)) := by
  pointwise [k1_pay17, k1_pay16, k1_pay15, k1_pay14, k1_pay13, k1_pay12]
  rfl

theorem pay25 (v3 : FVec Ideal S8x512 .f32) (r : Fin 8) (q : Fin 512) :
    k1_pay25 (k1_pay18 v3) (k1_pay21 (k1_pay18 v3) (k1_pay19 v3)) (k1_pay22 (k1_pay18 v3) (k1_pay19 v3)) (k1_pay23 (k1_pay18 v3))
        k1_pay24 (ix2 r q)
      = splX (FloatOps.absf (F := Ideal) (φ := .f32) (v3 (ix2 r q) + Ideal.ofBits .f32 1073741824#32)) := by
  pointwise [k1_pay25, k1_pay24, k1_pay23, k1_pay22, k1_pay21, k1_pay19, k1_pay18]
  rfl

theorem pay31 (v3 : FVec Ideal S8x512 .f32) (r : Fin 8) (q : Fin 512) :
    k1_pay31 (k1_pay26 v3) (k1_pay28 v3) (k1_pay29 v3) (k1_pay30 v3) (ix2 r q)
      = splX (FloatOps.absf (F := Ideal) (φ := .f32) (v3 (ix2 r q) - Ideal.ofBits .f32 1132462080#32)) := by
  pointwise [k1_pay31, k1_pay30, k1_pay29, k1_pay28, k1_pay26]
  rfl

theorem pay37 (a b d : FVec Ideal S8x512 .f32) (v3 : FVec Ideal S8x512 .f32) (r : Fin 8) (q : Fin 512) :
    k1_pay37 a b d (k1_pay32 v3) (k1_pay33 v3) (k1_pay34 v3) (k1_pay35 v3) (k1_pay36 v3) (FloatOps.ofBits .f32 1090519040#32)
        (ix3 r q 0) = a (ix2 r q)
    ∧ k1_pay37 a b d (k1_pay32 v3) (k1_pay33 v3) (k1_pay34 v3) (k1_pay35 v3) (k1_pay36 v3) (FloatOps.ofBits .f32 1090519040#32)
        (ix3 r q 1) = b (ix2 r q)
    ∧ k1_pay37 a b d (k1_pay32 v3) (k1_pay33 v3) (k1_pay34 v3) (k1_pay35 v3) (k1_pay36 v3) (FloatOps.ofBits .f32 1090519040#32)
        (ix3 r q 2) = d (ix2 r q)
    ∧ k1_pay37 a b d (k1_pay32 v3) (k1_pay33 v3) (k1_pay34 v3) (k1_pay35 v3) (k1_pay36 v3) (FloatOps.ofBits .f32 1090519040#32)
        (ix3 r q 3) = splX (FloatOps.absf (F := Ideal) (φ := .f32) (v3 (ix2 r q) - Ideal.ofBits .f32 1132494848#32)) := by
  refine ⟨?_, ?_, ?_, ?_⟩
  · pointwise [k1_pay37, k1_pay36, k1_pay35, k1_pay34, k1_pay33, k1_pay32]
  · pointwise [k1_pay37, k1_pay36, k1_pay35, k1_pay34, k1_pay33, k1_pay32]
  · pointwise [k1_pay37, k1_pay36, k1_pay35, k1_pay34, k1_pay33, k1_pay32]
  · pointwise [k1_pay37, k1_pay36, k1_pay35, k1_pay34, k1_pay33, k1_pay32]
    rfl

theorem idx1 : ∀ t : Fin cfg1.N, win1_0.index t = ![t.val / 64, t.val % 64, 0] ∧ win1_1.index t = ![t.val / 64, 0, 0]
    ∧ win1_2.index t = ![t.val / 64, 0, 0] ∧ win1_3.index t = ![t.val % 64, 0] ∧ win1_4.index t = ![0, 0]
    ∧ win1_5.index t = ![t.val / 64, t.val % 64, 0] :=
  (by decide +kernel : ∀ t : Fin grid1.N, _)

/-- The second region's element at distance weights of one pixel: the counts of every tile weighted along the range of the bins,
    then weighted over the tiles. -/
def elem1 (f : EReal) (vol : Fin 64 → Fin 256 → EReal) (edge : Fin 64 → Fin 4 → EReal) (row col : Fin 64 → EReal) : EReal :=
  ∑ v : Fin 64, ((∑ k : Fin 256, hX (FloatOps.absf (F := Ideal) (φ := .f32) (f - ((k.val : ℝ) : EReal))) * vol v k)
    + (splX (FloatOps.absf (F := Ideal) (φ := .f32) (f + 1)) * edge v 0
      + splX (FloatOps.absf (F := Ideal) (φ := .f32) (f + Ideal.ofBits .f32 1073741824#32)) * edge v 1
      + splX (FloatOps.absf (F := Ideal) (φ := .f32) (f - Ideal.ofBits .f32 1132462080#32)) * edge v 2
      + splX (FloatOps.absf (F := Ideal) (φ := .f32) (f - Ideal.ofBits .f32 1132494848#32)) * edge v 3)) * (row v * col v)

set_option maxHeartbeats 1000000 in
theorem pay_elem (x0 : Vec Ideal S1x8x512 .f32) (x1 : Vec Ideal S1x64x256 .f32) (x2 : Vec Ideal S1x64x4 .f32)
    (x3 : Vec Ideal S8x64 .f32) (x4 : Vec Ideal S512x64 .f32) (v62 : FVec Ideal S4096x64 .f32) (v303 : FVec Ideal S8x512x4 .f32)
    (r : Fin 8) (q : Fin 512) :
    k1_pay1 v62 v303 x2 x3 x4 (ix3 0 r q)
      = ∑ v : Fin 64, (v62 (ix2 (⟨r.val * 512 + q.val, by omega⟩ : Fin 4096) v)
          + (v303 (ix3 r q 0) * x2 (ix3 0 v 0) + v303 (ix3 r q 1) * x2 (ix3 0 v 1) + v303 (ix3 r q 2) * x2 (ix3 0 v 2)
            + v303 (ix3 r q 3) * x2 (ix3 0 v 3))) * (x3 (ix2 r v) * x4 (ix2 q v)) := by
  unfold k1_pay1
  pointwise []
  simp only [Fin.sum_univ_four]
  try rfl

/-- The second region's array. -/
def G1 (img : S2x512x512.Idx → EReal) (vol : S2x64x256.Idx → EReal) (edge : S2x64x4.Idx → EReal) (row col : S512x64.Idx → EReal)
    (i : S2x512x512.Idx) : EReal :=
  elem1 (img i * Ideal.ofBits .f32 1132396544#32) (fun v k => vol (ix3 (i 0) v k)) (fun v x => edge (ix3 (i 0) v x))
    (fun v => row (ix2 (i 1) v)) (fun v => col (ix2 (i 2) v))

theorem arr1 (c : Dev nD) : (dat1 V c).arrAt 5 cfg1.N
    = G1 (V c (Pipeline.arrRef spec1 0)) (V c (Pipeline.arrRef spec1 1)) (V c (Pipeline.arrRef spec1 2)) (V c (Pipeline.arrRef spec1 3))
      (V c (Pipeline.arrRef spec1 4)) := by
  refine (dat1 V c).arrAt_eq_of_covers 5 _ (by decide +kernel) fun t _ y => ?_
  have ht : t.val < 128 := t.isLt
  blk_simp
  rw [after1_5]; unfold out1_5 k1_pay39 k1_pay40 k1_pay38; frame_out
  idx_vars y
  obtain rfl : y0 = 0 := Subsingleton.elim _ _
  have e : ((View.whole main_v102).slice (win1_5.rect t)).emb (ix3 0 y1 y2)
      = ix3 (⟨t.val / 64, by omega⟩ : Fin 2) (⟨t.val % 64 * 8 + y1.val, by omega⟩ : Fin 512) y2 := by
    blk_ext [(idx1 t).2.2.2.2.2]
  rw [e]
  rw [pay_elem (iblk1 V c 0 t) (iblk1 V c 1 t)]
  simp only [pay11 _ _ y1 y2 _ (⟨y1.val * 512 + y2.val, by omega⟩ : Fin 4096) rfl, (pay37 _ _ _ _ _ _).1, (pay37 _ _ _ _ _ _).2.1, (pay37 _ _ _ _ _ _).2.2.1,
    (pay37 _ _ _ _ _ _).2.2.2, pay17, pay25, pay31, pay2a]
  have b0 : iblk1 V c 0 t (ix3 0 y1 y2) = V c (Pipeline.arrRef spec1 0)
      (ix3 (⟨t.val / 64, by omega⟩ : Fin 2) (⟨t.val % 64 * 8 + y1.val, by omega⟩ : Fin 512) y2) := by
    blk_point [iblk1, (idx1 t).1]
  have b1 (v : Fin 64) (k : Fin 256) : iblk1 V c 1 t (ix3 0 v k) = V c (Pipeline.arrRef spec1 1)
      (ix3 (⟨t.val / 64, by omega⟩ : Fin 2) v k) := by
    blk_point [iblk1, (idx1 t).2.1]
  have b2 (v : Fin 64) (k : Fin 4) : iblk1 V c 2 t (ix3 0 v k) = V c (Pipeline.arrRef spec1 2)
      (ix3 (⟨t.val / 64, by omega⟩ : Fin 2) v k) := by
    blk_point [iblk1, (idx1 t).2.2.1]
  have b3 (v : Fin 64) : iblk1 V c 3 t (ix2 y1 v) = V c (Pipeline.arrRef spec1 3)
      (ix2 (⟨t.val % 64 * 8 + y1.val, by omega⟩ : Fin 512) v) := by
    blk_point [iblk1, (idx1 t).2.2.2.1]
  have b4 (v : Fin 64) : iblk1 V c 4 t (ix2 y2 v) = V c (Pipeline.arrRef spec1 4) (ix2 y2 v) := by
    blk_point [iblk1, (idx1 t).2.2.2.2.1]
  simp only [b0, b1, b2, b3, b4]
  rfl

end Cert.KernelIdeal.Val

end

end
-- ==== Proof.Table.lean ====
module

public import proofs.«01_k».proof.Proof.Spline
public import proofs.«01_k».proof.Proof.Hist

/-!
The tables of nodes and weights: positions in the grid, the words of the six nodes around a position, their reflection
into the grid and the spline weights. Both programs compute the words on 32-bit integers; here they are read as
integers.
-/

open Idealize Idealize.ShloMosaic

@[expose] public section

noncomputable section

namespace Cert.Val

/-- The position of pixel `p` in the grid of tiles. -/
def linR (p : ℕ) : ℝ := -17 / 32 + (p : ℝ) / 511 * (129 / 16)

theorem lin_of (n : ℕ) :
    Ideal.ofBits .f32 3204972544#32 * (1 - Ideal.div ((n : ℝ) : EReal) (Ideal.ofBits .f32 1140817920#32))
      + Ideal.ofBits .f32 1089536000#32 * Ideal.div ((n : ℝ) : EReal) (Ideal.ofBits .f32 1140817920#32)
      = (linR n : EReal) := by
  rw [c3204972544, c1140817920, c1089536000, divc _ _ (by norm_num), ← EReal.coe_one, ← EReal.coe_sub,
    ← EReal.coe_mul, ← EReal.coe_mul, ← EReal.coe_add]
  congr 1; unfold linR; ring

theorem lin_last : Ideal.ofBits .f32 1089536000#32 = (linR 511 : EReal) := by
  rw [c1089536000]; congr 1; unfold linR; norm_num

theorem linR_lo (p : ℕ) : -1 ≤ linR p := by
  unfold linR; have : (0 : ℝ) ≤ p := Nat.cast_nonneg p; linarith [div_nonneg this (by norm_num : (0 : ℝ) ≤ 511)]

theorem linR_hi (p : ℕ) (h : p < 512) : linR p < 8 := by
  unfold linR; have h1 : (p : ℝ) ≤ 511 := by exact_mod_cast Nat.lt_succ_iff.mp h
  have : (p : ℝ) / 511 ≤ 1 := by rw [div_le_one (by norm_num)]; exact h1
  linarith

theorem linR_fl (p : ℕ) (h : p < 512) : -1 ≤ ⌊linR p⌋ ∧ ⌊linR p⌋ ≤ 7 :=
  ⟨Int.le_floor.mpr (by exact_mod_cast linR_lo p),
    Int.lt_add_one_iff.mp (Int.floor_lt.mpr (by have := linR_hi p h; push_cast; linarith))⟩

/-- The word of a rounded-down position. -/
theorem fl_word (r : ℝ) (h0 : -1 ≤ ⌊r⌋) (h1 : ⌊r⌋ ≤ 1000) :
    FloatOps.fptosi (F := Ideal) (φ := .f32) 32 (Ideal.liftRound Int.floor (r : EReal)) = BitVec.ofInt 32 ⌊r⌋ := by
  show Ideal.fptosi 32 (Ideal.liftRound Int.floor (r : EReal)) = _
  rw [Ideal.liftRound_coe, Ideal.fptosi, Ideal.toIntClamped_coe, Int.floor_intCast, Int.ceil_intCast, ite_self]
  congr 1
  rw [min_eq_right (by norm_num; omega), max_eq_right (by norm_num; omega)]

theorem word_k (z : ℤ) (i : ℕ) :
    IntOp.addi (IntOp.subi (BitVec.ofInt 32 z) 2#32) (BitVec.ofNat 32 i) = BitVec.ofInt 32 (z - 2 + i) := by
  show BitVec.ofInt 32 z - 2#32 + BitVec.ofNat 32 i = _
  rw [sub_eq_add_neg z, BitVec.ofInt_add, BitVec.ofInt_add, BitVec.ofInt_natCast, BitVec.sub_eq_add_neg]; rfl

theorem word_r (z : ℤ) (i : ℕ) :
    IntOp.addi (BitVec.ofInt 32 z) (IntOp.addi 4294967294#32 (BitVec.ofNat 32 i)) = BitVec.ofInt 32 (z - 2 + i) := by
  show BitVec.ofInt 32 z + (4294967294#32 + BitVec.ofNat 32 i) = _
  rw [sub_eq_add_neg z, BitVec.ofInt_add, BitVec.ofInt_add, BitVec.ofInt_natCast, BitVec.add_assoc]; rfl

theorem toInt_small (z : ℤ) (h0 : -2000 ≤ z) (h1 : z ≤ 2000) : (BitVec.ofInt 32 z).toInt = z := by
  rw [BitVec.toInt_ofInt]; exact Int.bmod_eq_of_le (by norm_num; omega) (by norm_num; omega)

theorem sitofp_word (z : ℤ) (h0 : -2000 ≤ z) (h1 : z ≤ 2000) :
    FloatOps.sitofp (F := Ideal) .f32 (BitVec.ofInt 32 z) = ((z : ℝ) : EReal) := by
  show (((BitVec.ofInt 32 z).toInt : ℝ) : EReal) = _
  rw [toInt_small z h0 h1]

/-- The distance of a position from one of its nodes. -/
theorem dist_of (r : ℝ) (z : ℤ) (h0 : -2000 ≤ z) (h1 : z ≤ 2000) :
    FloatOps.absf (F := Ideal) (φ := .f32) ((r : EReal) - FloatOps.sitofp (F := Ideal) .f32 (BitVec.ofInt 32 z))
      = ((|r - (z : ℝ)| : ℝ) : EReal) := by
  rw [sitofp_word z h0 h1, ← EReal.coe_sub, absc]

/-- The weight of node `i` around the position `r`. -/
def wgt (r : ℝ) (i : Fin 6) : ℝ := br (r - ((⌊r⌋ - 2 + (i.val : ℤ) : ℤ) : ℝ))

/-- The spline at distance less than one. -/
def spl1 (x : EReal) : EReal :=
  Ideal.ofBits .f32 1057803469#32 - Ideal.div (x * x) (Ideal.ofBits .f32 1073741824#32)
    + Ideal.div (x * x * (x * x)) (Ideal.ofBits .f32 1082130432#32)
    - Ideal.div (x * x * (x * x) * x) (Ideal.ofBits .f32 1094713344#32)

/-- The spline at distance from one to two. -/
def spl2 (x : EReal) : EReal :=
  Ideal.ofBits .f32 1054448026#32
    + Ideal.div (Ideal.ofBits .f32 1084227584#32 * x) (Ideal.ofBits .f32 1090519040#32)
    - Ideal.div (Ideal.ofBits .f32 1088421888#32 * (x * x)) (Ideal.ofBits .f32 1082130432#32)
    + Ideal.div (Ideal.ofBits .f32 1084227584#32 * (x * x) * x) (Ideal.ofBits .f32 1082130432#32)
    - Ideal.div (Ideal.ofBits .f32 1077936128#32 * (x * x * (x * x))) (Ideal.ofBits .f32 1090519040#32)
    + Ideal.div (x * x * (x * x) * x) (Ideal.ofBits .f32 1103101952#32)

/-- The spline at distance from two to three. -/
def spl3 (x : EReal) : EReal :=
  Ideal.div ((Ideal.ofBits .f32 1077936128#32 - x)
      * ((Ideal.ofBits .f32 1077936128#32 - x) * (Ideal.ofBits .f32 1077936128#32 - x)
        * ((Ideal.ofBits .f32 1077936128#32 - x) * (Ideal.ofBits .f32 1077936128#32 - x))))
    (Ideal.ofBits .f32 1123024896#32)

theorem splX_sel (x : EReal) :
    Scalar.select (BitVec.ofBool (decide (x < 1))) (spl1 x)
      (Scalar.select (BitVec.ofBool (decide (x < Ideal.ofBits .f32 1073741824#32))) (spl2 x)
        (Scalar.select (BitVec.ofBool (decide (x < Ideal.ofBits .f32 1077936128#32))) (spl3 x) 0)) = splX x := by
  have h : ∀ (p : Prop) [Decidable p] (a b : EReal), Scalar.select (BitVec.ofBool (decide p)) a b = if p then a else b := by
    intro p _ a b
    by_cases h : p
    · rw [if_pos h, decide_eq_true h]; rfl
    · rw [if_neg h, decide_eq_false h]; rfl
  rw [h, h, h]; rfl

/-- The distance of a position from node `i`, on the words of the kernel. -/
def dK (t : EReal) (i : ℕ) : EReal :=
  FloatOps.absf (F := Ideal) (φ := .f32) (t - FloatOps.sitofp (F := Ideal) .f32
    (IntOp.addi (IntOp.subi (FloatOps.fptosi (F := Ideal) (φ := .f32) 32 (Ideal.liftRound Int.floor t)) 2#32) (BitVec.ofNat 32 i)))

theorem splX_dK (r : ℝ) (h0 : -1 ≤ ⌊r⌋) (h1 : ⌊r⌋ ≤ 1000) (i : Fin 6) : splX (dK (r : EReal) i.val) = (wgt r i : EReal) := by
  rw [dK, fl_word r h0 h1, word_k, dist_of _ _ (by omega) (by omega), splX_coe]; rfl

/-- The remainder of two words with the sign of the divisor. -/
def jrem (n d : BitVec 32) : BitVec 32 :=
  Scalar.select (IntOp.andi (IntOp.cmpi .ne (IntOp.cmpi .slt (IntOp.remsi ArithUnit.host n d) 0#32) (IntOp.cmpi .slt d 0#32))
    (IntOp.cmpi .ne (IntOp.remsi ArithUnit.host n d) 0#32)) (IntOp.addi (IntOp.remsi ArithUnit.host n d) d)
    (IntOp.remsi ArithUnit.host n d)

/-- The word of a node reflected into the grid. -/
def reflW (d h m n : BitVec 32) : BitVec 32 :=
  Scalar.select (IntOp.cmpi .sge (jrem n d) h) (IntOp.subi m (jrem n d)) (jrem n d)

theorem refl8_all : ∀ n : Fin 14, reflW 16#32 8#32 15#32 (BitVec.ofInt 32 ((n.val : ℤ) - 3))
    = BitVec.ofNat 32 (refl 8 ((n.val : ℤ) - 3)) := by decide +kernel

theorem refl256_all : ∀ n : Fin 261, reflW 512#32 256#32 511#32 (BitVec.ofInt 32 ((n.val : ℤ) - 2))
    = BitVec.ofNat 32 (refl 256 ((n.val : ℤ) - 2)) := by decide +kernel

theorem refl8_lt : ∀ n : Fin 14, refl 8 ((n.val : ℤ) - 3) < 8 := by decide +kernel

theorem refl256_lt : ∀ n : Fin 261, refl 256 ((n.val : ℤ) - 2) < 256 := by decide +kernel

theorem refl8_word (z : ℤ) (h0 : -3 ≤ z) (h1 : z ≤ 10) :
    reflW 16#32 8#32 15#32 (BitVec.ofInt 32 z) = BitVec.ofNat 32 (refl 8 z) ∧ refl 8 z < 8 := by
  have e : (((z + 3).toNat : ℕ) : ℤ) - 3 = z := by omega
  have a := refl8_all ⟨(z + 3).toNat, by omega⟩
  have b := refl8_lt ⟨(z + 3).toNat, by omega⟩
  simp only [e] at a b
  exact ⟨a, b⟩

theorem refl256_word (z : ℤ) (h0 : -2 ≤ z) (h1 : z ≤ 258) :
    reflW 512#32 256#32 511#32 (BitVec.ofInt 32 z) = BitVec.ofNat 32 (refl 256 z) ∧ refl 256 z < 256 := by
  have e : (((z + 2).toNat : ℕ) : ℤ) - 2 = z := by omega
  have a := refl256_all ⟨(z + 2).toNat, by omega⟩
  have b := refl256_lt ⟨(z + 2).toNat, by omega⟩
  simp only [e] at a b
  exact ⟨a, b⟩

/-- Node `i` around the position `r`, reflected into a grid of `N`. -/
def spot (N : ℕ) (r : ℝ) (i : Fin 6) : ℕ := refl N (⌊r⌋ - 2 + (i.val : ℤ))

theorem spot8_lt (p : ℕ) (h : p < 512) (i : Fin 6) : spot 8 (linR p) i < 8 :=
  (refl8_word _ (by have := linR_fl p h; omega) (by have := linR_fl p h; omega)).2

theorem spot8_word (p : ℕ) (h : p < 512) (i : Fin 6) :
    reflW 16#32 8#32 15#32 (BitVec.ofInt 32 (⌊linR p⌋ - 2 + (i.val : ℤ))) = BitVec.ofNat 32 (spot 8 (linR p) i) :=
  (refl8_word _ (by have := linR_fl p h; omega) (by have := linR_fl p h; omega)).1

/-- The flat position of a lookup: the node words put together. -/
def flatW (a b c : BitVec 32) : BitVec 32 :=
  IntOp.addi (IntOp.muli (IntOp.addi (IntOp.muli a 8#32) b) 8#32) c

theorem flatW_of (a b c : ℕ) (ha : a < 256) (hb : b < 8) (hc : c < 8) :
    (Scalar.select (IntOp.cmpi .slt (flatW (BitVec.ofNat 32 a) (BitVec.ofNat 32 b) (BitVec.ofNat 32 c)) 0#32)
      (IntOp.addi (flatW (BitVec.ofNat 32 a) (BitVec.ofNat 32 b) (BitVec.ofNat 32 c)) 16384#32)
      (flatW (BitVec.ofNat 32 a) (BitVec.ofNat 32 b) (BitVec.ofNat 32 c))).toInt.toNat = (a * 8 + b) * 8 + c := by
  have e : flatW (BitVec.ofNat 32 a) (BitVec.ofNat 32 b) (BitVec.ofNat 32 c) = BitVec.ofNat 32 ((a * 8 + b) * 8 + c) := by
    show (BitVec.ofNat 32 a * BitVec.ofNat 32 8 + BitVec.ofNat 32 b) * BitVec.ofNat 32 8 + BitVec.ofNat 32 c = _
    rw [← BitVec.ofNat_mul, ← BitVec.ofNat_add, ← BitVec.ofNat_mul, ← BitVec.ofNat_add]
  have t : (BitVec.ofNat 32 ((a * 8 + b) * 8 + c)).toInt = (((a * 8 + b) * 8 + c : ℕ) : ℤ) := by
    rw [BitVec.toInt_eq_toNat_cond, BitVec.toNat_ofNat, Nat.mod_eq_of_lt (by omega), if_pos (by omega)]
  have n : IntOp.cmpi .slt (BitVec.ofNat 32 ((a * 8 + b) * 8 + c)) 0#32 = 0#1 := by
    show BitVec.ofBool (BitVec.slt _ _) = _
    rw [BitVec.slt_eq_decide, t, decide_eq_false (by rw [show (0#32).toInt = 0 from rfl]; omega)]; rfl
  rw [e, n, show ∀ x y : BitVec 32, Scalar.select 0#1 x y = y from fun _ _ => rfl, t]; omega

/-- The least element of an image. -/
def loE (A : Fin 2 → Fin 512 → Fin 512 → EReal) : EReal := ⨅ b, ⨅ p, ⨅ q, A b p q

/-- The greatest element of an image. -/
def hiE (A : Fin 2 → Fin 512 → Fin 512 → EReal) : EReal := ⨆ b, ⨆ p, ⨆ q, A b p q

/-- An image moved and scaled by its extremes. -/
def finE (A : Fin 2 → Fin 512 → Fin 512 → EReal) (b : Fin 2) (p q : Fin 512) : EReal :=
  Ideal.div (A b p q - loE A) (hiE A - loE A + Ideal.ofBits .f32 786163455#32)

theorem lo_of (A : Fin 2 → Fin 512 → Fin 512 → EReal) (m : EReal) (h : ∀ a, a ≤ m ↔ ∀ b p q, a ≤ A b p q) : m = loE A :=
  eq_of_forall_le_iff fun a => by rw [h]; simp only [loE, le_iInf_iff]

theorem hi_of (A : Fin 2 → Fin 512 → Fin 512 → EReal) (m : EReal) (h : ∀ a, m ≤ a ↔ ∀ b p q, A b p q ≤ a) : m = hiE A :=
  eq_of_forall_ge_iff fun a => by rw [h]; simp only [hiE, iSup_le_iff]

theorem le_foldl {ι : Type} (g : ι → EReal) (l : List ι) (i a : EReal) :
    a ≤ l.foldl (fun r n => min r (g n)) i ↔ a ≤ i ∧ ∀ n ∈ l, a ≤ g n := by
  induction l generalizing i with
  | nil => simp
  | cons x l ih => rw [List.foldl_cons, ih, le_min_iff, List.forall_mem_cons, and_assoc]

theorem foldl_le {ι : Type} (g : ι → EReal) (l : List ι) (i a : EReal) :
    l.foldl (fun r n => max r (g n)) i ≤ a ↔ i ≤ a ∧ ∀ n ∈ l, g n ≤ a := by
  induction l generalizing i with
  | nil => simp
  | cons x l ih => rw [List.foldl_cons, ih, max_le_iff, List.forall_mem_cons, and_assoc]

theorem top_of : Ideal.ofBits .f32 2139095040#32 = ⊤ := by simp [Ideal.ofBits, Ideal.ieee]

theorem bot_of : Ideal.ofBits .f32 4286578688#32 = ⊥ := by simp [Ideal.ofBits, Ideal.ieee]

/-- The pixels of tile `v` of an image, in row-major order. -/
def tileOf (x : Fin 2 → Fin 512 → Fin 512 → EReal) (b : Fin 2) (v : Fin 64) (k : Fin 4096) : EReal :=
  x b ⟨v.val / 8 * 64 + k.val / 64, by omega⟩ ⟨v.val % 8 * 64 + k.val % 64, by omega⟩

/-- The tables of an image: node `k` of tile `v`. -/
def vol (x : Fin 2 → Fin 512 → Fin 512 → EReal) (b : Fin 2) (v k : ℕ) : ℝ :=
  if h : v < 64 ∧ k < 256 then (cdf (tileOf x b ⟨v, h.1⟩) ⟨k, h.2⟩).toReal else 0

theorem vol_coe (x : Fin 2 → Fin 512 → Fin 512 → EReal) (b : Fin 2) (v : Fin 64) (k : Fin 256) :
    (vol x b v.val k.val : EReal) = cdf (tileOf x b v) k := by
  obtain ⟨r, hr⟩ := cdf_real (tileOf x b v) k
  rw [vol, dif_pos ⟨v.isLt, k.isLt⟩, hr]; rfl

/-- The interpolated image at a pixel whose scaled value is `f`. -/
def preR (x : Fin 2 → Fin 512 → Fin 512 → EReal) (b : Fin 2) (p q : Fin 512) (f : ℝ) : ℝ :=
  ∑ i : Fin 6, ∑ j : Fin 6, ∑ k : Fin 6,
    vol x b (spot 8 (linR p.val) j * 8 + spot 8 (linR q.val) k) (spot 256 f i)
      * (wgt f i * wgt (linR p.val) j * wgt (linR q.val) k)

end Cert.Val

end

end
-- ==== Proof.KHost.lean ====
module

public import proofs.«01_k».proof.Proof.KReg
public import proofs.«01_k».proof.Proof.Table
public import Idealize.ShloMosaic.Lib.Pointwise
public import Idealize.ShloMosaic.Lib.Tactic.CleanTypes
public import Idealize.ShloMosaic.Lib.StableHlo.RunRead

/-! What the kernel's plain array operations between its regions leave, element by element. -/

@[expose] public section

set_option maxRecDepth 16384

noncomputable section

namespace Cert.KernelIdeal.Val

open Idealize.ShloMosaic Cert.KernelIdeal Cert.KernelIdeal.Gen Cert.KernelIdeal.Own Cert.Val

section Lines

variable (X : Valuation τ sig (Elt Ideal))

theorem h0 (T : Fin 128) (r : Fin 8) (q : Fin 512) :
    (StableHlo.after hostOps0 X (Proc.devRef .tc main_v2) : S128x8x512.Idx → EReal) (ix3 T r q) = ((X (Proc.devRef .tc main_arg0) : S2x1x512x512.Idx → EReal) (ix4 ⟨T.val / 64, by omega⟩ 0 ⟨T.val / 8 % 8 * 64 + (r.val * 8 + q.val / 64), by omega⟩ ⟨T.val % 8 * 64 + q.val % 64, by omega⟩) : EReal) := by
  after_reads_simp
  try simp only [StableHlo.TRef.toBuf, StableHlo.TRef.ofBuf, cast_eq]
  clean_types
  pointwise []

theorem h1 (b : Fin 2) (v : Fin 64) (k : Fin 256) :
    (StableHlo.after hostOps1 X (Proc.devRef .tc main_v4) : S2x64x256.Idx → EReal) (ix3 b v k) = ((X (Proc.devRef .tc main_v3) : S128x1x256.Idx → EReal) (ix3 ⟨b.val * 64 + v.val, by omega⟩ 0 k) : EReal) := by
  after_reads_simp
  try simp only [StableHlo.TRef.toBuf, StableHlo.TRef.ofBuf, cast_eq]
  clean_types
  pointwise []

theorem h1e0 (b : Fin 2) (v : Fin 64) :
    (StableHlo.after hostOps1 X (Proc.devRef .tc main_v9) : S2x64x4.Idx → EReal) (ix3 b v 0) = ((X (Proc.devRef .tc main_v3) : S128x1x256.Idx → EReal) (ix3 ⟨b.val * 64 + v.val, by omega⟩ 0 0) : EReal) := by
  after_reads_simp
  try simp only [StableHlo.TRef.toBuf, StableHlo.TRef.ofBuf, cast_eq]
  clean_types
  pointwise []
  erw [StableHlo.unary_result]
  after_reads_simp
  try simp only [StableHlo.TRef.toBuf, StableHlo.TRef.ofBuf, cast_eq]
  clean_types
  pointwise []

theorem h1e1 (b : Fin 2) (v : Fin 64) :
    (StableHlo.after hostOps1 X (Proc.devRef .tc main_v9) : S2x64x4.Idx → EReal) (ix3 b v 1) = ((X (Proc.devRef .tc main_v3) : S128x1x256.Idx → EReal) (ix3 ⟨b.val * 64 + v.val, by omega⟩ 0 1) : EReal) := by
  after_reads_simp
  try simp only [StableHlo.TRef.toBuf, StableHlo.TRef.ofBuf, cast_eq]
  clean_types
  pointwise []
  erw [StableHlo.unary_result]
  after_reads_simp
  try simp only [StableHlo.TRef.toBuf, StableHlo.TRef.ofBuf, cast_eq]
  clean_types
  pointwise []

theorem h1e2 (b : Fin 2) (v : Fin 64) :
    (StableHlo.after hostOps1 X (Proc.devRef .tc main_v9) : S2x64x4.Idx → EReal) (ix3 b v 2) = ((X (Proc.devRef .tc main_v3) : S128x1x256.Idx → EReal) (ix3 ⟨b.val * 64 + v.val, by omega⟩ 0 255) : EReal) := by
  after_reads_simp
  try simp only [StableHlo.TRef.toBuf, StableHlo.TRef.ofBuf, cast_eq]
  clean_types
  pointwise []
  erw [StableHlo.unary_result]
  after_reads_simp
  try simp only [StableHlo.TRef.toBuf, StableHlo.TRef.ofBuf, cast_eq]
  clean_types
  pointwise []

theorem h1e3 (b : Fin 2) (v : Fin 64) :
    (StableHlo.after hostOps1 X (Proc.devRef .tc main_v9) : S2x64x4.Idx → EReal) (ix3 b v 3) = ((X (Proc.devRef .tc main_v3) : S128x1x256.Idx → EReal) (ix3 ⟨b.val * 64 + v.val, by omega⟩ 0 254) : EReal) := by
  after_reads_simp
  try simp only [StableHlo.TRef.toBuf, StableHlo.TRef.ofBuf, cast_eq]
  clean_types
  pointwise []
  erw [StableHlo.unary_result]
  after_reads_simp
  try simp only [StableHlo.TRef.toBuf, StableHlo.TRef.ofBuf, cast_eq]
  clean_types
  pointwise []

theorem h1c  :
    (StableHlo.after hostOps1 X (Proc.devRef .tc main_cst) : S_.Idx → EReal) (ix0) = (Ideal.ofBits .f32 3204972544#32 : EReal) := by
  after_reads_simp
  try simp only [StableHlo.TRef.toBuf, StableHlo.TRef.ofBuf, cast_eq]
  clean_types
  pointwise []

theorem h1d  :
    (StableHlo.after hostOps1 X (Proc.devRef .tc main_cst_0) : S_.Idx → EReal) (ix0) = (Ideal.ofBits .f32 1089536000#32 : EReal) := by
  after_reads_simp
  try simp only [StableHlo.TRef.toBuf, StableHlo.TRef.ofBuf, cast_eq]
  clean_types
  pointwise []

/-- The positions, from the two ends of the grid. -/
theorem h11 (p : Fin 512) (ha : (X (Proc.devRef .tc main_cst) : S_.Idx → EReal) ix0 = Ideal.ofBits .f32 3204972544#32)
    (hb : (X (Proc.devRef .tc main_cst_0) : S_.Idx → EReal) ix0 = Ideal.ofBits .f32 1089536000#32) :
    (StableHlo.after hostOps1_1 X (Proc.devRef .tc main_v10) : S512.Idx → EReal) (ix1 p) = (linR p.val : EReal) := by
  after_reads_simp
  try simp only [StableHlo.TRef.toBuf, StableHlo.TRef.ofBuf, cast_eq]
  clean_types
  pointwise []
  after_reads_simp
  try simp only [StableHlo.TRef.toBuf, StableHlo.TRef.ofBuf, cast_eq]
  clean_types
  pointwise []
  by_cases h : p.val < 511
  · refine (dif_pos h).trans ?_
    rw [← lin_of p.val, ← sitofp_ofNat p.val (by omega), ← ha, ← hb]; rfl
  · refine (dif_neg h).trans ?_
    rw [show p.val = 511 by omega, ← lin_last, ← hb]; rfl

theorem h12w (p : Fin 512) (i : Fin 6) :
    (StableHlo.after hostOps1_2 X (Proc.devRef .tc main_v20) : S512x6.Idx → BitVec 32) (ix2 p i) = (IntOp.addi (IntOp.subi (FloatOps.fptosi (F := Ideal) (φ := .f32) 32 (Ideal.liftRound Int.floor ((X (Proc.devRef .tc main_v10) : S512.Idx → EReal) (ix1 p)))) 2#32) (BitVec.ofNat 32 i.val) : BitVec 32) := by
  after_reads_simp
  try simp only [StableHlo.TRef.toBuf, StableHlo.TRef.ofBuf, cast_eq]
  clean_types
  pointwise []

theorem h12s1 (p : Fin 512) (i : Fin 6) :
    (StableHlo.after hostOps1_2 X (Proc.devRef .tc main_v38) : S512x6.Idx → EReal) (ix2 p i) = (spl1 (dK ((X (Proc.devRef .tc main_v10) : S512.Idx → EReal) (ix1 p)) i.val) : EReal) := by
  after_reads_simp
  try simp only [StableHlo.TRef.toBuf, StableHlo.TRef.ofBuf, cast_eq]
  clean_types
  pointwise []
  rfl

theorem h12s2 (p : Fin 512) (i : Fin 6) :
    (StableHlo.after hostOps1_2 X (Proc.devRef .tc main_v64) : S512x6.Idx → EReal) (ix2 p i) = (spl2 (dK ((X (Proc.devRef .tc main_v10) : S512.Idx → EReal) (ix1 p)) i.val) : EReal) := by
  after_reads_simp
  try simp only [StableHlo.TRef.toBuf, StableHlo.TRef.ofBuf, cast_eq]
  clean_types
  pointwise []
  rfl

theorem h12s3 (p : Fin 512) (i : Fin 6) :
    (StableHlo.after hostOps1_2 X (Proc.devRef .tc main_v71) : S512x6.Idx → EReal) (ix2 p i) = (spl3 (dK ((X (Proc.devRef .tc main_v10) : S512.Idx → EReal) (ix1 p)) i.val) : EReal) := by
  after_reads_simp
  try simp only [StableHlo.TRef.toBuf, StableHlo.TRef.ofBuf, cast_eq]
  clean_types
  pointwise []
  rfl

theorem h12c1 (p : Fin 512) (i : Fin 6) :
    (StableHlo.after hostOps1_2 X (Proc.devRef .tc main_v73) : S512x6.Idx → BitVec 1) (ix2 p i) = (BitVec.ofBool (decide ((dK ((X (Proc.devRef .tc main_v10) : S512.Idx → EReal) (ix1 p)) i.val) < 1)) : BitVec 1) := by
  after_reads_simp
  try simp only [StableHlo.TRef.toBuf, StableHlo.TRef.ofBuf, cast_eq]
  clean_types
  pointwise []
  rfl

theorem h12c2 (p : Fin 512) (i : Fin 6) :
    (StableHlo.after hostOps1_2 X (Proc.devRef .tc main_v75) : S512x6.Idx → BitVec 1) (ix2 p i) = (BitVec.ofBool (decide ((dK ((X (Proc.devRef .tc main_v10) : S512.Idx → EReal) (ix1 p)) i.val) < Ideal.ofBits .f32 1073741824#32)) : BitVec 1) := by
  after_reads_simp
  try simp only [StableHlo.TRef.toBuf, StableHlo.TRef.ofBuf, cast_eq]
  clean_types
  pointwise []
  rfl

theorem h12c3 (p : Fin 512) (i : Fin 6) :
    (StableHlo.after hostOps1_2 X (Proc.devRef .tc main_v77) : S512x6.Idx → BitVec 1) (ix2 p i) = (BitVec.ofBool (decide ((dK ((X (Proc.devRef .tc main_v10) : S512.Idx → EReal) (ix1 p)) i.val) < Ideal.ofBits .f32 1077936128#32)) : BitVec 1) := by
  after_reads_simp
  try simp only [StableHlo.TRef.toBuf, StableHlo.TRef.ofBuf, cast_eq]
  clean_types
  pointwise []
  rfl

theorem h12z  :
    (StableHlo.after hostOps1_2 X (Proc.devRef .tc main_cst_20) : S_.Idx → EReal) (ix0) = (0 : EReal) := by
  after_reads_simp
  try simp only [StableHlo.TRef.toBuf, StableHlo.TRef.ofBuf, cast_eq]
  clean_types
  pointwise []

theorem h13 (p : Fin 512) (i : Fin 6) :
    (StableHlo.after hostOps1_3 X (Proc.devRef .tc main_v78) : S512x6.Idx → EReal) (ix2 p i) = (Scalar.select ((X (Proc.devRef .tc main_v77) : S512x6.Idx → BitVec 1) (ix2 p i)) ((X (Proc.devRef .tc main_v71) : S512x6.Idx → EReal) (ix2 p i)) ((X (Proc.devRef .tc main_cst_20) : S_.Idx → EReal) (ix0)) : EReal) := by
  after_reads_simp
  try simp only [StableHlo.TRef.toBuf, StableHlo.TRef.ofBuf, cast_eq]
  clean_types
  pointwise []
  rfl

theorem h14 (p : Fin 512) (i : Fin 6) :
    (StableHlo.after hostOps1_4 X (Proc.devRef .tc main_v79) : S512x6.Idx → EReal) (ix2 p i) = (Scalar.select ((X (Proc.devRef .tc main_v75) : S512x6.Idx → BitVec 1) (ix2 p i)) ((X (Proc.devRef .tc main_v64) : S512x6.Idx → EReal) (ix2 p i)) ((X (Proc.devRef .tc main_v78) : S512x6.Idx → EReal) (ix2 p i)) : EReal) := by
  after_reads_simp
  try simp only [StableHlo.TRef.toBuf, StableHlo.TRef.ofBuf, cast_eq]
  clean_types
  pointwise []

theorem h15 (p : Fin 512) (i : Fin 6) :
    (StableHlo.after hostOps1_5 X (Proc.devRef .tc main_v80) : S512x6.Idx → EReal) (ix2 p i) = (Scalar.select ((X (Proc.devRef .tc main_v73) : S512x6.Idx → BitVec 1) (ix2 p i)) ((X (Proc.devRef .tc main_v38) : S512x6.Idx → EReal) (ix2 p i)) ((X (Proc.devRef .tc main_v79) : S512x6.Idx → EReal) (ix2 p i)) : EReal) := by
  after_reads_simp
  try simp only [StableHlo.TRef.toBuf, StableHlo.TRef.ofBuf, cast_eq]
  clean_types
  pointwise []

theorem h16  :
    (StableHlo.after hostOps1_6 X (Proc.devRef .tc main_c_21) : S_.Idx → BitVec 32) (ix0) = (16#32 : BitVec 32) := by
  after_reads_simp
  try simp only [StableHlo.TRef.toBuf, StableHlo.TRef.ofBuf, cast_eq]
  clean_types
  pointwise []

theorem h17 (p : Fin 512) (i : Fin 6) (hc : (X (Proc.devRef .tc main_c_21) : S_.Idx → BitVec 32) ix0 = 16#32) :
    (StableHlo.after hostOps1_7 X (Proc.devRef .tc main_v81) : S512x6.Idx → BitVec 32) (ix2 p i)
      = jrem ((X (Proc.devRef .tc main_v20) : S512x6.Idx → BitVec 32) (ix2 p i)) 16#32 := by
  after_reads_simp
  try simp only [StableHlo.TRef.toBuf, StableHlo.TRef.ofBuf, cast_eq]
  clean_types
  pointwise []
  rw [show (id (X (Proc.devRef .tc main_c_21) : S_.Idx → BitVec 32)) ix0 = 16#32 from hc]
  rfl

theorem h18c (p : Fin 512) (i : Fin 6) :
    (StableHlo.after hostOps1_8 X (Proc.devRef .tc main_v83) : S512x6.Idx → BitVec 1) (ix2 p i) = (IntOp.cmpi .sge ((X (Proc.devRef .tc main_v81) : S512x6.Idx → BitVec 32) (ix2 p i)) 8#32 : BitVec 1) := by
  after_reads_simp
  try simp only [StableHlo.TRef.toBuf, StableHlo.TRef.ofBuf, cast_eq]
  clean_types
  pointwise []

theorem h18s (p : Fin 512) (i : Fin 6) :
    (StableHlo.after hostOps1_8 X (Proc.devRef .tc main_v85) : S512x6.Idx → BitVec 32) (ix2 p i) = (IntOp.subi 15#32 ((X (Proc.devRef .tc main_v81) : S512x6.Idx → BitVec 32) (ix2 p i)) : BitVec 32) := by
  after_reads_simp
  try simp only [StableHlo.TRef.toBuf, StableHlo.TRef.ofBuf, cast_eq]
  clean_types
  pointwise []

theorem h19 (p : Fin 512) (i : Fin 6) :
    (StableHlo.after hostOps1_9 X (Proc.devRef .tc main_v86) : S512x6.Idx → BitVec 32) (ix2 p i) = (Scalar.select ((X (Proc.devRef .tc main_v83) : S512x6.Idx → BitVec 1) (ix2 p i)) ((X (Proc.devRef .tc main_v85) : S512x6.Idx → BitVec 32) (ix2 p i)) ((X (Proc.devRef .tc main_v81) : S512x6.Idx → BitVec 32) (ix2 p i)) : BitVec 32) := by
  after_reads_simp
  try simp only [StableHlo.TRef.toBuf, StableHlo.TRef.ofBuf, cast_eq]
  clean_types
  pointwise []

theorem h110c (p : Fin 512) (i : Fin 6) (g : Fin 8) :
    (StableHlo.after hostOps1_10 X (Proc.devRef .tc main_v92) : S512x6x8.Idx → BitVec 1) (ix3 p i g) = (IntOp.cmpi .eq ((X (Proc.devRef .tc main_v86) : S512x6.Idx → BitVec 32) (ix2 p i)) (BitVec.ofNat 32 g.val) : BitVec 1) := by
  after_reads_simp
  try simp only [StableHlo.TRef.toBuf, StableHlo.TRef.ofBuf, cast_eq]
  clean_types
  pointwise []

theorem h110s (p : Fin 512) (i : Fin 6) :
    (StableHlo.after hostOps1_10 X (Proc.devRef .tc main_v93) : S512x6x1.Idx → EReal) (ix3 p i 0) = (((X (Proc.devRef .tc main_v80) : S512x6.Idx → EReal) (ix2 p i)) : EReal) := by
  after_reads_simp
  try simp only [StableHlo.TRef.toBuf, StableHlo.TRef.ofBuf, cast_eq]
  clean_types
  pointwise []

theorem h110z  :
    (StableHlo.after hostOps1_10 X (Proc.devRef .tc main_cst_24) : S_.Idx → EReal) (ix0) = (0 : EReal) := by
  after_reads_simp
  try simp only [StableHlo.TRef.toBuf, StableHlo.TRef.ofBuf, cast_eq]
  clean_types
  pointwise []

theorem h111 (p : Fin 512) (i : Fin 6) (g : Fin 8) :
    (StableHlo.after hostOps1_11 X (Proc.devRef .tc main_v94) : S512x6x8.Idx → EReal) (ix3 p i g) = (Scalar.select ((X (Proc.devRef .tc main_v92) : S512x6x8.Idx → BitVec 1) (ix3 p i g)) ((X (Proc.devRef .tc main_v93) : S512x6x1.Idx → EReal) (ix3 p i 0)) ((X (Proc.devRef .tc main_cst_24) : S_.Idx → EReal) (ix0)) : EReal) := by
  after_reads_simp
  try simp only [StableHlo.TRef.toBuf, StableHlo.TRef.ofBuf, cast_eq]
  clean_types
  pointwise []
  rfl

theorem h112r (p : Fin 512) (v : Fin 64) :
    (StableHlo.after hostOps1_12 X (Proc.devRef .tc main_v97) : S512x64.Idx → EReal) (ix2 p v) = (∑ x : Fin 6, (X (Proc.devRef .tc main_v94) : S512x6x8.Idx → EReal) (ix3 p x ⟨v.val / 8, by omega⟩) : EReal) := by
  after_reads_simp
  try simp only [StableHlo.TRef.toBuf, StableHlo.TRef.ofBuf, cast_eq]
  clean_types
  pointwise []

theorem h112c (p : Fin 512) (v : Fin 64) :
    (StableHlo.after hostOps1_12 X (Proc.devRef .tc main_v100) : S512x64.Idx → EReal) (ix2 p v) = (∑ x : Fin 6, (X (Proc.devRef .tc main_v94) : S512x6x8.Idx → EReal) (ix3 p x ⟨v.val % 8, by omega⟩) : EReal) := by
  after_reads_simp
  try simp only [StableHlo.TRef.toBuf, StableHlo.TRef.ofBuf, cast_eq]
  clean_types
  pointwise []

theorem h112i (b : Fin 2) (p q : Fin 512) :
    (StableHlo.after hostOps1_12 X (Proc.devRef .tc main_v101) : S2x512x512.Idx → EReal) (ix3 b p q) = ((X (Proc.devRef .tc main_arg0) : S2x1x512x512.Idx → EReal) (ix4 b 0 p q) : EReal) := by
  after_reads_simp
  try simp only [StableHlo.TRef.toBuf, StableHlo.TRef.ofBuf, cast_eq]
  clean_types
  pointwise []

theorem h3 (b : Fin 2) (p q : Fin 512) :
    (StableHlo.after hostOps3 X (Proc.devRef .tc main_v104) : S2x1x512x512.Idx → EReal) (ix4 b 0 p q) = ((X (Proc.devRef .tc main_v103) : S2x512x512.Idx → EReal) (ix3 b p q) : EReal) := by
  after_reads_simp
  try simp only [StableHlo.TRef.toBuf, StableHlo.TRef.ofBuf, cast_eq]
  clean_types
  pointwise []

end Lines

end Cert.KernelIdeal.Val

end

end
-- ==== Proof.KNorm.lean ====
module

public import proofs.«01_k».proof.Proof.KReg
public import proofs.«01_k».proof.Proof.Table

/-! The array the kernel's last region leaves. -/

@[expose] public section

set_option maxRecDepth 16384

noncomputable section

namespace Cert.KernelIdeal.Val

open Idealize.ShloMosaic Cert.KernelIdeal Cert.KernelIdeal.Gen Cert.KernelIdeal.Own Cert.Val

/-- An array read by its three positions. -/
def img3 (A : S2x512x512.Idx → EReal) (b : Fin 2) (p q : Fin 512) : EReal := A (ix3 b p q)

theorem one1 (y : S1.Idx) : y = ix1 0 := by
  idx_vars y
  obtain rfl : y0 = 0 := Subsingleton.elim _ _
  rfl

theorem low (v : S2x512x512.Idx → EReal) :
    Finset.fold min (Ideal.ofBits .f32 2139095040#32) (fun x : S1x2x512x512.Idx => v (ix3 (x 1) (x 2) (x 3)))
      {i | reduces_S1x2x512x512_S1.drop i = ix1 0} = loE (img3 v) := by
  refine lo_of _ _ fun a => ?_
  rw [Finset.le_fold_min, top_of]
  constructor
  · intro h b p q
    exact h.2 (ix4 0 b p q) (Finset.mem_filter.mpr ⟨Finset.mem_univ _, one1 _⟩)
  · exact fun h => ⟨le_top, fun x _ => h (x 1) (x 2) (x 3)⟩

theorem high (v : S2x512x512.Idx → EReal) :
    Finset.fold max (Ideal.ofBits .f32 4286578688#32) (fun x : S1x2x512x512.Idx => v (ix3 (x 1) (x 2) (x 3)))
      {i | reduces_S1x2x512x512_S1.drop i = ix1 0} = hiE (img3 v) := by
  refine hi_of _ _ fun a => ?_
  rw [Finset.fold_max_le, bot_of]
  constructor
  · intro h b p q
    exact h.2 (ix4 0 b p q) (Finset.mem_filter.mpr ⟨Finset.mem_univ _, one1 _⟩)
  · exact fun h => ⟨bot_le, fun x _ => h (x 1) (x 2) (x 3)⟩

theorem pay_fin (v : Vec Ideal S2x512x512 .f32) (b : Fin 2) (p q : Fin 512) :
    (k2_pay1 v (ix3 b p q) : EReal) = finE (img3 v) b p q := by
  unfold k2_pay1
  pointwise []
  rw [low, high]; rfl

variable (V : (c : Dev nD) → (r : Ref sig .tc) → r.ty.Contents (Elt Ideal))

theorem idx2 : ∀ t : Fin cfg2.N, win2_0.index t = ![0, 0, 0] ∧ win2_1.index t = ![0, 0, 0] :=
  (by decide +kernel : ∀ t : Fin grid2.N, _)

theorem arr2 (c : Dev nD) : (dat2 V c).arrAt 1 cfg2.N
    = fun i => finE (img3 (V c (Pipeline.arrRef spec2 0))) (i 0) (i 1) (i 2) := by
  refine (dat2 V c).arrAt_eq_of_covers 1 _ (by decide +kernel) fun t _ y => ?_
  blk_simp
  rw [after2_1]; unfold out2_1; frame_out
  idx_vars y
  rw [pay_fin (iblk2 V c 0 t)]
  have e : ((View.whole main_v103).slice (win2_1.rect t)).emb (ix3 y0 y1 y2) = ix3 y0 y1 y2 := by
    blk_ext [(idx2 t).2]
  rw [e]
  have f : img3 (iblk2 V c 0 t) = img3 (V c (Pipeline.arrRef spec2 0)) := by
    funext b p q
    unfold img3
    blk_point [iblk2, (idx2 t).1]
  rw [f]; rfl

end Cert.KernelIdeal.Val

end

end
-- ==== Proof.KVal.lean ====
module

public import proofs.«01_k».proof.Proof.KHost
public import proofs.«01_k».proof.Proof.KNorm

/-! The kernel's result, as a function of its argument. -/

@[expose] public section

set_option maxRecDepth 16384

noncomputable section

namespace Cert.KernelIdeal.Val

open Idealize.ShloMosaic Cert.KernelIdeal Cert.KernelIdeal.Gen Cert.KernelIdeal.Own Cert.Val

variable (m : (ℓ : Loc nD τ sig) → Buf (Elt Ideal) ℓ) (ρ : Dev nD → PrngReg) (c : Dev nD)

/-- The argument, read by row and column. -/
def argX (b : Fin 2) (p q : Fin 512) : EReal :=
  (m ((c.tc : Thread nD τ).loc main_arg0) : S2x1x512x512.Idx → EReal) (ix4 b 0 p q)

theorem at4 (A : S2x1x512x512.Idx → EReal) (a a' : Fin 2) (d d' e e' : Fin 512) (ha : a.val = a'.val) (hd : d.val = d'.val)
    (he : e.val = e'.val) : A (ix4 a 0 d e) = A (ix4 a' 0 d' e') := by
  obtain rfl := Fin.ext ha; obtain rfl := Fin.ext hd; obtain rfl := Fin.ext he; rfl

section Steps

theorem w0 (T : Fin 128) (r : Fin 8) (q : Fin 512) :
    (W1 m ρ c (Proc.devRef .tc main_v2) : S128x8x512.Idx → EReal) (ix3 T r q) = ((W0 m ρ c (Proc.devRef .tc main_arg0) : S2x1x512x512.Idx → EReal) (ix4 ⟨T.val / 64, by omega⟩ 0 ⟨T.val / 8 % 8 * 64 + (r.val * 8 + q.val / 64), by omega⟩ ⟨T.val % 8 * 64 + q.val % 64, by omega⟩) : EReal) :=
  h0 (W0 m ρ c) T r q

theorem w1 (b : Fin 2) (v : Fin 64) (k : Fin 256) :
    (W3 m ρ c (Proc.devRef .tc main_v4) : S2x64x256.Idx → EReal) (ix3 b v k) = ((W2 m ρ c (Proc.devRef .tc main_v3) : S128x1x256.Idx → EReal) (ix3 ⟨b.val * 64 + v.val, by omega⟩ 0 k) : EReal) :=
  h1 (W2 m ρ c) b v k

theorem w1e0 (b : Fin 2) (v : Fin 64) :
    (W3 m ρ c (Proc.devRef .tc main_v9) : S2x64x4.Idx → EReal) (ix3 b v 0) = ((W2 m ρ c (Proc.devRef .tc main_v3) : S128x1x256.Idx → EReal) (ix3 ⟨b.val * 64 + v.val, by omega⟩ 0 0) : EReal) :=
  h1e0 (W2 m ρ c) b v

theorem w1e1 (b : Fin 2) (v : Fin 64) :
    (W3 m ρ c (Proc.devRef .tc main_v9) : S2x64x4.Idx → EReal) (ix3 b v 1) = ((W2 m ρ c (Proc.devRef .tc main_v3) : S128x1x256.Idx → EReal) (ix3 ⟨b.val * 64 + v.val, by omega⟩ 0 1) : EReal) :=
  h1e1 (W2 m ρ c) b v

theorem w1e2 (b : Fin 2) (v : Fin 64) :
    (W3 m ρ c (Proc.devRef .tc main_v9) : S2x64x4.Idx → EReal) (ix3 b v 2) = ((W2 m ρ c (Proc.devRef .tc main_v3) : S128x1x256.Idx → EReal) (ix3 ⟨b.val * 64 + v.val, by omega⟩ 0 255) : EReal) :=
  h1e2 (W2 m ρ c) b v

theorem w1e3 (b : Fin 2) (v : Fin 64) :
    (W3 m ρ c (Proc.devRef .tc main_v9) : S2x64x4.Idx → EReal) (ix3 b v 3) = ((W2 m ρ c (Proc.devRef .tc main_v3) : S128x1x256.Idx → EReal) (ix3 ⟨b.val * 64 + v.val, by omega⟩ 0 254) : EReal) :=
  h1e3 (W2 m ρ c) b v

theorem w1c  :
    (W3 m ρ c (Proc.devRef .tc main_cst) : S_.Idx → EReal) (ix0) = (Ideal.ofBits .f32 3204972544#32 : EReal) :=
  h1c (W2 m ρ c)

theorem w1d  :
    (W3 m ρ c (Proc.devRef .tc main_cst_0) : S_.Idx → EReal) (ix0) = (Ideal.ofBits .f32 1089536000#32 : EReal) :=
  h1d (W2 m ρ c)

theorem w12w (p : Fin 512) (i : Fin 6) :
    (W5 m ρ c (Proc.devRef .tc main_v20) : S512x6.Idx → BitVec 32) (ix2 p i) = (IntOp.addi (IntOp.subi (FloatOps.fptosi (F := Ideal) (φ := .f32) 32 (Ideal.liftRound Int.floor ((W4 m ρ c (Proc.devRef .tc main_v10) : S512.Idx → EReal) (ix1 p)))) 2#32) (BitVec.ofNat 32 i.val) : BitVec 32) :=
  h12w (W4 m ρ c) p i

theorem w12s1 (p : Fin 512) (i : Fin 6) :
    (W5 m ρ c (Proc.devRef .tc main_v38) : S512x6.Idx → EReal) (ix2 p i) = (spl1 (dK ((W4 m ρ c (Proc.devRef .tc main_v10) : S512.Idx → EReal) (ix1 p)) i.val) : EReal) :=
  h12s1 (W4 m ρ c) p i

theorem w12s2 (p : Fin 512) (i : Fin 6) :
    (W5 m ρ c (Proc.devRef .tc main_v64) : S512x6.Idx → EReal) (ix2 p i) = (spl2 (dK ((W4 m ρ c (Proc.devRef .tc main_v10) : S512.Idx → EReal) (ix1 p)) i.val) : EReal) :=
  h12s2 (W4 m ρ c) p i

theorem w12s3 (p : Fin 512) (i : Fin 6) :
    (W5 m ρ c (Proc.devRef .tc main_v71) : S512x6.Idx → EReal) (ix2 p i) = (spl3 (dK ((W4 m ρ c (Proc.devRef .tc main_v10) : S512.Idx → EReal) (ix1 p)) i.val) : EReal) :=
  h12s3 (W4 m ρ c) p i

theorem w12c1 (p : Fin 512) (i : Fin 6) :
    (W5 m ρ c (Proc.devRef .tc main_v73) : S512x6.Idx → BitVec 1) (ix2 p i) = (BitVec.ofBool (decide ((dK ((W4 m ρ c (Proc.devRef .tc main_v10) : S512.Idx → EReal) (ix1 p)) i.val) < 1)) : BitVec 1) :=
  h12c1 (W4 m ρ c) p i

theorem w12c2 (p : Fin 512) (i : Fin 6) :
    (W5 m ρ c (Proc.devRef .tc main_v75) : S512x6.Idx → BitVec 1) (ix2 p i) = (BitVec.ofBool (decide ((dK ((W4 m ρ c (Proc.devRef .tc main_v10) : S512.Idx → EReal) (ix1 p)) i.val) < Ideal.ofBits .f32 1073741824#32)) : BitVec 1) :=
  h12c2 (W4 m ρ c) p i

theorem w12c3 (p : Fin 512) (i : Fin 6) :
    (W5 m ρ c (Proc.devRef .tc main_v77) : S512x6.Idx → BitVec 1) (ix2 p i) = (BitVec.ofBool (decide ((dK ((W4 m ρ c (Proc.devRef .tc main_v10) : S512.Idx → EReal) (ix1 p)) i.val) < Ideal.ofBits .f32 1077936128#32)) : BitVec 1) :=
  h12c3 (W4 m ρ c) p i

theorem w12z  :
    (W5 m ρ c (Proc.devRef .tc main_cst_20) : S_.Idx → EReal) (ix0) = (0 : EReal) :=
  h12z (W4 m ρ c)

theorem w13 (p : Fin 512) (i : Fin 6) :
    (W6 m ρ c (Proc.devRef .tc main_v78) : S512x6.Idx → EReal) (ix2 p i) = (Scalar.select ((W5 m ρ c (Proc.devRef .tc main_v77) : S512x6.Idx → BitVec 1) (ix2 p i)) ((W5 m ρ c (Proc.devRef .tc main_v71) : S512x6.Idx → EReal) (ix2 p i)) ((W5 m ρ c (Proc.devRef .tc main_cst_20) : S_.Idx → EReal) (ix0)) : EReal) :=
  h13 (W5 m ρ c) p i

theorem w14 (p : Fin 512) (i : Fin 6) :
    (W7 m ρ c (Proc.devRef .tc main_v79) : S512x6.Idx → EReal) (ix2 p i) = (Scalar.select ((W6 m ρ c (Proc.devRef .tc main_v75) : S512x6.Idx → BitVec 1) (ix2 p i)) ((W6 m ρ c (Proc.devRef .tc main_v64) : S512x6.Idx → EReal) (ix2 p i)) ((W6 m ρ c (Proc.devRef .tc main_v78) : S512x6.Idx → EReal) (ix2 p i)) : EReal) :=
  h14 (W6 m ρ c) p i

theorem w15 (p : Fin 512) (i : Fin 6) :
    (W8 m ρ c (Proc.devRef .tc main_v80) : S512x6.Idx → EReal) (ix2 p i) = (Scalar.select ((W7 m ρ c (Proc.devRef .tc main_v73) : S512x6.Idx → BitVec 1) (ix2 p i)) ((W7 m ρ c (Proc.devRef .tc main_v38) : S512x6.Idx → EReal) (ix2 p i)) ((W7 m ρ c (Proc.devRef .tc main_v79) : S512x6.Idx → EReal) (ix2 p i)) : EReal) :=
  h15 (W7 m ρ c) p i

theorem w16  :
    (W9 m ρ c (Proc.devRef .tc main_c_21) : S_.Idx → BitVec 32) (ix0) = (16#32 : BitVec 32) :=
  h16 (W8 m ρ c)

theorem w18c (p : Fin 512) (i : Fin 6) :
    (W11 m ρ c (Proc.devRef .tc main_v83) : S512x6.Idx → BitVec 1) (ix2 p i) = (IntOp.cmpi .sge ((W10 m ρ c (Proc.devRef .tc main_v81) : S512x6.Idx → BitVec 32) (ix2 p i)) 8#32 : BitVec 1) :=
  h18c (W10 m ρ c) p i

theorem w18s (p : Fin 512) (i : Fin 6) :
    (W11 m ρ c (Proc.devRef .tc main_v85) : S512x6.Idx → BitVec 32) (ix2 p i) = (IntOp.subi 15#32 ((W10 m ρ c (Proc.devRef .tc main_v81) : S512x6.Idx → BitVec 32) (ix2 p i)) : BitVec 32) :=
  h18s (W10 m ρ c) p i

theorem w19 (p : Fin 512) (i : Fin 6) :
    (W12 m ρ c (Proc.devRef .tc main_v86) : S512x6.Idx → BitVec 32) (ix2 p i) = (Scalar.select ((W11 m ρ c (Proc.devRef .tc main_v83) : S512x6.Idx → BitVec 1) (ix2 p i)) ((W11 m ρ c (Proc.devRef .tc main_v85) : S512x6.Idx → BitVec 32) (ix2 p i)) ((W11 m ρ c (Proc.devRef .tc main_v81) : S512x6.Idx → BitVec 32) (ix2 p i)) : BitVec 32) :=
  h19 (W11 m ρ c) p i

theorem w110c (p : Fin 512) (i : Fin 6) (g : Fin 8) :
    (W13 m ρ c (Proc.devRef .tc main_v92) : S512x6x8.Idx → BitVec 1) (ix3 p i g) = (IntOp.cmpi .eq ((W12 m ρ c (Proc.devRef .tc main_v86) : S512x6.Idx → BitVec 32) (ix2 p i)) (BitVec.ofNat 32 g.val) : BitVec 1) :=
  h110c (W12 m ρ c) p i g

theorem w110s (p : Fin 512) (i : Fin 6) :
    (W13 m ρ c (Proc.devRef .tc main_v93) : S512x6x1.Idx → EReal) (ix3 p i 0) = (((W12 m ρ c (Proc.devRef .tc main_v80) : S512x6.Idx → EReal) (ix2 p i)) : EReal) :=
  h110s (W12 m ρ c) p i

theorem w110z  :
    (W13 m ρ c (Proc.devRef .tc main_cst_24) : S_.Idx → EReal) (ix0) = (0 : EReal) :=
  h110z (W12 m ρ c)

theorem w111 (p : Fin 512) (i : Fin 6) (g : Fin 8) :
    (W14 m ρ c (Proc.devRef .tc main_v94) : S512x6x8.Idx → EReal) (ix3 p i g) = (Scalar.select ((W13 m ρ c (Proc.devRef .tc main_v92) : S512x6x8.Idx → BitVec 1) (ix3 p i g)) ((W13 m ρ c (Proc.devRef .tc main_v93) : S512x6x1.Idx → EReal) (ix3 p i 0)) ((W13 m ρ c (Proc.devRef .tc main_cst_24) : S_.Idx → EReal) (ix0)) : EReal) :=
  h111 (W13 m ρ c) p i g

theorem w112r (p : Fin 512) (v : Fin 64) :
    (W15 m ρ c (Proc.devRef .tc main_v97) : S512x64.Idx → EReal) (ix2 p v) = (∑ x : Fin 6, (W14 m ρ c (Proc.devRef .tc main_v94) : S512x6x8.Idx → EReal) (ix3 p x ⟨v.val / 8, by omega⟩) : EReal) :=
  h112r (W14 m ρ c) p v

theorem w112c (p : Fin 512) (v : Fin 64) :
    (W15 m ρ c (Proc.devRef .tc main_v100) : S512x64.Idx → EReal) (ix2 p v) = (∑ x : Fin 6, (W14 m ρ c (Proc.devRef .tc main_v94) : S512x6x8.Idx → EReal) (ix3 p x ⟨v.val % 8, by omega⟩) : EReal) :=
  h112c (W14 m ρ c) p v

theorem w112i (b : Fin 2) (p q : Fin 512) :
    (W15 m ρ c (Proc.devRef .tc main_v101) : S2x512x512.Idx → EReal) (ix3 b p q) = ((W14 m ρ c (Proc.devRef .tc main_arg0) : S2x1x512x512.Idx → EReal) (ix4 b 0 p q) : EReal) :=
  h112i (W14 m ρ c) b p q

theorem w3 (b : Fin 2) (p q : Fin 512) :
    (W18 m ρ c (Proc.devRef .tc main_v104) : S2x1x512x512.Idx → EReal) (ix4 b 0 p q) = ((W17 m ρ c (Proc.devRef .tc main_v103) : S2x512x512.Idx → EReal) (ix3 b p q) : EReal) :=
  h3 (W17 m ρ c) b p q

end Steps

theorem a_lin (p : Fin 512) :
    (W4 m ρ c (Proc.devRef .tc main_v10) : S512.Idx → EReal) (ix1 p) = (linR p.val : EReal) :=
  h11 (W3 m ρ c) p (h1c (W2 m ρ c)) (h1d (W2 m ρ c))

theorem a_wgt (p : Fin 512) (i : Fin 6) :
    (W8 m ρ c (Proc.devRef .tc main_v80) : S512x6.Idx → EReal) (ix2 p i) = (wgt (linR p.val) i : EReal) := by
  have hf := linR_fl p.val p.isLt
  rw [w15 m ρ c p i, W7_of m ρ c main_v73 (by decide), W7_of m ρ c main_v38 (by decide), W6_of m ρ c main_v73 (by decide),
    W6_of m ρ c main_v38 (by decide), w14 m ρ c p i, W6_of m ρ c main_v75 (by decide), W6_of m ρ c main_v64 (by decide),
    w13 m ρ c p i, w12s1 m ρ c p i, w12s2 m ρ c p i, w12s3 m ρ c p i, w12c1 m ρ c p i,
    w12c2 m ρ c p i, w12c3 m ρ c p i, w12z m ρ c, a_lin, splX_sel, splX_dK _ hf.1 (by omega)]

theorem a_word (p : Fin 512) (i : Fin 6) :
    (W5 m ρ c (Proc.devRef .tc main_v20) : S512x6.Idx → BitVec 32) (ix2 p i) = BitVec.ofInt 32 (⌊linR p.val⌋ - 2 + (i.val : ℤ)) := by
  have hf := linR_fl p.val p.isLt
  rw [w12w m ρ c p i, a_lin, fl_word _ hf.1 (by omega), word_k]

theorem a_rem (p : Fin 512) (i : Fin 6) :
    (W10 m ρ c (Proc.devRef .tc main_v81) : S512x6.Idx → BitVec 32) (ix2 p i)
      = jrem ((W9 m ρ c (Proc.devRef .tc main_v20) : S512x6.Idx → BitVec 32) (ix2 p i)) 16#32 :=
  h17 (W9 m ρ c) p i (h16 (W8 m ρ c))

theorem a_spot (p : Fin 512) (i : Fin 6) :
    (W12 m ρ c (Proc.devRef .tc main_v86) : S512x6.Idx → BitVec 32) (ix2 p i) = BitVec.ofNat 32 (spot 8 (linR p.val) i) := by
  rw [w19 m ρ c p i, w18c m ρ c p i, w18s m ρ c p i, W11_of m ρ c main_v81 (by decide),
    a_rem, W9_of m ρ c main_v20 (by decide), W8_of m ρ c main_v20 (by decide),
    W7_of m ρ c main_v20 (by decide), W6_of m ρ c main_v20 (by decide), a_word, ← spot8_word p.val p.isLt]
  rfl

theorem eq_word (a b : ℕ) (ha : a < 8) (hb : b < 8) (x y : EReal) :
    Scalar.select (IntOp.cmpi .eq (BitVec.ofNat 32 a) (BitVec.ofNat 32 b)) x y = if a = b then x else y := by
  have : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_iff]
    constructor
    · intro h
      have := congrArg BitVec.toNat h
      rwa [BitVec.toNat_ofNat, BitVec.toNat_ofNat, Nat.mod_eq_of_lt (by omega), Nat.mod_eq_of_lt (by omega)] at this
    · rintro rfl; rfl
  rw [this]
  by_cases h : a = b
  · rw [if_pos h, decide_eq_true h]; rfl
  · rw [if_neg h, decide_eq_false h]; rfl

theorem a_cell (p : Fin 512) (i : Fin 6) (g : Fin 8) :
    (W14 m ρ c (Proc.devRef .tc main_v94) : S512x6x8.Idx → EReal) (ix3 p i g)
      = ((if spot 8 (linR p.val) i = g.val then wgt (linR p.val) i else 0 : ℝ) : EReal) := by
  rw [w111 m ρ c p i g, w110c m ρ c p i g, w110s m ρ c p i, w110z m ρ c, a_spot,
    W12_of m ρ c main_v80 (by decide), W11_of m ρ c main_v80 (by decide), W10_of m ρ c main_v80 (by decide),
    W9_of m ρ c main_v80 (by decide), a_wgt, eq_word _ _ (spot8_lt p.val p.isLt i) g.isLt]
  split_ifs <;> simp

theorem coe_sum6 (f : Fin 6 → ℝ) : ((∑ i, f i : ℝ) : EReal) = ∑ i, (f i : EReal) := by
  simp only [Fin.sum_univ_six, EReal.coe_add]

theorem sum6_eq (g : Fin 6 → EReal) (h : Fin 6 → ℝ) (e : ∀ i, g i = (h i : EReal)) : ∑ i, g i = ((∑ i, h i : ℝ) : EReal) := by
  rw [coe_sum6]; exact Finset.sum_congr rfl fun i _ => e i

theorem a_row (p : Fin 512) (v : Fin 64) :
    (W15 m ρ c (Proc.devRef .tc main_v97) : S512x64.Idx → EReal) (ix2 p v)
      = (wt (wgt (linR p.val)) (spot 8 (linR p.val)) (v.val / 8) : EReal) := by
  exact (w112r m ρ c p v).trans (sum6_eq _ _ fun x => a_cell m ρ c p x _)

theorem a_col (p : Fin 512) (v : Fin 64) :
    (W15 m ρ c (Proc.devRef .tc main_v100) : S512x64.Idx → EReal) (ix2 p v)
      = (wt (wgt (linR p.val)) (spot 8 (linR p.val)) (v.val % 8) : EReal) := by
  exact (w112c m ρ c p v).trans (sum6_eq _ _ fun x => a_cell m ρ c p x _)

theorem a_img (b : Fin 2) (p q : Fin 512) :
    (W15 m ρ c (Proc.devRef .tc main_v101) : S2x512x512.Idx → EReal) (ix3 b p q) = argX m c b p q := by
  rw [w112i m ρ c b p q, W14_args m ρ c main_arg0 (by decide)]; rfl

theorem a_tab (b : Fin 2) (v : Fin 64) (k : Fin 256) :
    (W2 m ρ c (Proc.devRef .tc main_v3) : S128x1x256.Idx → EReal) (ix3 ⟨b.val * 64 + v.val, by omega⟩ 0 k)
      = (vol (argX m c) b v.val k.val : EReal) := by
  have e : W2 m ρ c (Proc.devRef .tc main_v3) = G0 (W1 m ρ c (Proc.devRef .tc main_v2)) :=
    (W2_arr m ρ c 1).trans (arr0 (V1 m ρ) c)
  rw [e, vol_coe]
  show cdf (tileA (W1 m ρ c (Proc.devRef .tc main_v2)) ⟨b.val * 64 + v.val, by omega⟩) k = _
  refine congrArg (fun T => cdf T k) (funext fun j => ?_)
  show (W1 m ρ c (Proc.devRef .tc main_v2) : S128x8x512.Idx → EReal) (ix3 _ _ _) = _
  rw [w0 m ρ c, W0_args m ρ c main_arg0 (by decide)]
  exact at4 (m ((c.tc : Thread nD τ).loc main_arg0)) _ _ _ _ _ _ (by dsimp only; omega) (by dsimp only; omega) (by dsimp only; omega)

theorem a_vol (b : Fin 2) (v : Fin 64) (k : Fin 256) :
    (W15 m ρ c (Proc.devRef .tc main_v4) : S2x64x256.Idx → EReal) (ix3 b v k) = (vol (argX m c) b v.val k.val : EReal) := by
  rw [W15_of m ρ c main_v4 (by decide), W14_of m ρ c main_v4 (by decide), W13_of m ρ c main_v4 (by decide),
    W12_of m ρ c main_v4 (by decide), W11_of m ρ c main_v4 (by decide), W10_of m ρ c main_v4 (by decide),
    W9_of m ρ c main_v4 (by decide), W8_of m ρ c main_v4 (by decide), W7_of m ρ c main_v4 (by decide),
    W6_of m ρ c main_v4 (by decide), W5_of m ρ c main_v4 (by decide), W4_of m ρ c main_v4 (by decide),
    w1 m ρ c b v k, a_tab]

theorem a_edge : ∀ (b : Fin 2) (v : Fin 64),
    ((W15 m ρ c (Proc.devRef .tc main_v9) : S2x64x4.Idx → EReal) (ix3 b v 0) = (vol (argX m c) b v.val 0 : EReal))
    ∧ ((W15 m ρ c (Proc.devRef .tc main_v9) : S2x64x4.Idx → EReal) (ix3 b v 1) = (vol (argX m c) b v.val 1 : EReal))
    ∧ ((W15 m ρ c (Proc.devRef .tc main_v9) : S2x64x4.Idx → EReal) (ix3 b v 2) = (vol (argX m c) b v.val 255 : EReal))
    ∧ ((W15 m ρ c (Proc.devRef .tc main_v9) : S2x64x4.Idx → EReal) (ix3 b v 3) = (vol (argX m c) b v.val 254 : EReal)) := by
  intro b v
  rw [W15_of m ρ c main_v9 (by decide), W14_of m ρ c main_v9 (by decide), W13_of m ρ c main_v9 (by decide),
    W12_of m ρ c main_v9 (by decide), W11_of m ρ c main_v9 (by decide), W10_of m ρ c main_v9 (by decide),
    W9_of m ρ c main_v9 (by decide), W8_of m ρ c main_v9 (by decide), W7_of m ρ c main_v9 (by decide),
    W6_of m ρ c main_v9 (by decide), W5_of m ρ c main_v9 (by decide), W4_of m ρ c main_v9 (by decide),
    w1e0 m ρ c b v, w1e1 m ρ c b v, w1e2 m ρ c b v, w1e3 m ρ c b v, a_tab, a_tab, a_tab, a_tab]
  exact ⟨rfl, rfl, rfl, rfl⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The second region's element over the reals. -/
theorem elem1_coe (f : ℝ) (V : ℕ → ℕ → ℝ) (R C : ℕ → ℝ) (vo : Fin 64 → Fin 256 → EReal) (ed : Fin 64 → Fin 4 → EReal)
    (ro co : Fin 64 → EReal) (hv : ∀ v k, vo v k = (V v.val k.val : EReal))
    (he : ∀ v : Fin 64, ed v 0 = (V v.val 0 : EReal) ∧ ed v 1 = (V v.val 1 : EReal) ∧ ed v 2 = (V v.val 255 : EReal) ∧ ed v 3 = (V v.val 254 : EReal))
    (hr : ∀ v, ro v = (R v.val : EReal)) (hc : ∀ v, co v = (C v.val : EReal)) :
    elem1 (f : EReal) vo ed ro co
      = ((∑ v : Fin 64, (∑ k : Fin 256, br (f - (k.val : ℝ)) * V v.val k.val
          + (br (f + 1) * V v.val 0 + br (f + 2) * V v.val 1 + br (f - 256) * V v.val 255 + br (f - 257) * V v.val 254))
          * (R v.val * C v.val) : ℝ) : EReal) := by
  unfold elem1
  rw [coe_sum]
  refine Finset.sum_congr rfl fun v _ => ?_
  obtain ⟨e0, e1, e2, e3⟩ := he v
  rw [e0, e1, e2, e3, hr, hc, c1073741824, c1132462080, c1132494848, ← EReal.coe_one]
  simp only [← EReal.coe_add, ← EReal.coe_sub, absc, splX_coe, hX_coe, hv, ← EReal.coe_mul]
  rw [← coe_sum]
  simp only [← EReal.coe_add, ← EReal.coe_mul]
  norm_num [br]

theorem pre_of (im : S2x512x512.Idx → EReal) (vo : S2x64x256.Idx → EReal) (ed : S2x64x4.Idx → EReal) (ro co : S512x64.Idx → EReal)
    (b : Fin 2) (p q : Fin 512) (f : ℝ) (V : ℕ → ℕ → ℝ) (R C : ℕ → ℝ) (x : EReal) (hx : im (ix3 b p q) = x)
    (hf : x * Ideal.ofBits .f32 1132396544#32 = (f : EReal)) (hv : ∀ v k, vo (ix3 b v k) = (V v.val k.val : EReal))
    (he : ∀ v : Fin 64, ed (ix3 b v 0) = (V v.val 0 : EReal) ∧ ed (ix3 b v 1) = (V v.val 1 : EReal)
      ∧ ed (ix3 b v 2) = (V v.val 255 : EReal) ∧ ed (ix3 b v 3) = (V v.val 254 : EReal))
    (hr : ∀ v : Fin 64, ro (ix2 p v) = (R v.val : EReal)) (hc : ∀ v : Fin 64, co (ix2 q v) = (C v.val : EReal)) :
    G1 im vo ed ro co (ix3 b p q)
      = ((∑ v : Fin 64, (∑ k : Fin 256, br (f - (k.val : ℝ)) * V v.val k.val
          + (br (f + 1) * V v.val 0 + br (f + 2) * V v.val 1 + br (f - 256) * V v.val 255 + br (f - 257) * V v.val 254))
          * (R v.val * C v.val) : ℝ) : EReal) := by
  have e := elem1_coe f V R C (fun v k => vo (ix3 b v k)) (fun v x => ed (ix3 b v x)) (fun v => ro (ix2 p v))
    (fun v => co (ix2 q v)) hv he hr hc
  rw [← hf, ← hx] at e
  exact e

/-- The kernel's image before it is scaled. -/
theorem a_pre (b : Fin 2) (p q : Fin 512) (f : ℝ) (h0 : 0 ≤ f) (h1 : f ≤ 255)
    (hf : argX m c b p q * Ideal.ofBits .f32 1132396544#32 = (f : EReal)) :
    (W16 m ρ c (Proc.devRef .tc main_v102) : S2x512x512.Idx → EReal) (ix3 b p q) = (preR (argX m c) b p q f : EReal) := by
  have e : W16 m ρ c (Proc.devRef .tc main_v102) = G1 (W15 m ρ c (Proc.devRef .tc main_v101)) (W15 m ρ c (Proc.devRef .tc main_v4))
      (W15 m ρ c (Proc.devRef .tc main_v9)) (W15 m ρ c (Proc.devRef .tc main_v97)) (W15 m ρ c (Proc.devRef .tc main_v100)) :=
    (W16_arr m ρ c 5).trans (arr1 (V15 m ρ) c)
  rw [e]
  refine (pre_of _ _ _ _ _ b p q f (fun v k => vol (argX m c) b v k) (fun v => wt (wgt (linR p.val)) (spot 8 (linR p.val)) (v / 8))
    (fun v => wt (wgt (linR q.val)) (spot 8 (linR q.val)) (v % 8)) (argX m c b p q) (a_img m ρ c b p q) hf (fun v k => a_vol m ρ c b v k)
    (fun v => a_edge m ρ c b v) (fun v => a_row m ρ c p v) (fun v => a_col m ρ c q v)).trans ?_
  rw [element f h0 h1 _ _ _ _ (spot8_lt p.val p.isLt) (spot8_lt q.val q.isLt) (fun v k => vol (argX m c) b v k)]
  rfl

/-- The kernel's result. -/
theorem a_res (f : Fin 2 → Fin 512 → Fin 512 → ℝ) (h0 : ∀ b p q, 0 ≤ f b p q) (h1 : ∀ b p q, f b p q ≤ 255)
    (hf : ∀ b p q, argX m c b p q * Ideal.ofBits .f32 1132396544#32 = (f b p q : EReal)) (b : Fin 2) (p q : Fin 512) :
    (W18 m ρ c (Proc.devRef .tc main_v104) : S2x1x512x512.Idx → EReal) (ix4 b 0 p q)
      = finE (fun b p q => (preR (argX m c) b p q (f b p q) : EReal)) b p q := by
  have e : W17 m ρ c (Proc.devRef .tc main_v103) = fun i => finE (img3 (W16 m ρ c (Proc.devRef .tc main_v102))) (i 0) (i 1) (i 2) :=
    (W17_arr m ρ c 1).trans (arr2 (V16 m ρ) c)
  rw [w3 m ρ c b p q, e]
  show finE (img3 (W16 m ρ c (Proc.devRef .tc main_v102))) b p q = _
  congr 1
  funext b p q
  exact a_pre m ρ c b p q (f b p q) (h0 b p q) (h1 b p q) (hf b p q)

end Cert.KernelIdeal.Val

end

end
-- ==== Proof.ROps.lean ====
module

public import proofs.«01_k».proof.Proof.Gen.ReferenceIdeal.Run
public import Idealize.ShloMosaic.Lib.Pointwise
public import Idealize.ShloMosaic.Lib.Tactic.CleanTypes

/-! Three operations of the reference read at a point: the running sum along a row, the batched lookup and the sum over three axes. -/

@[expose] public section

set_option maxRecDepth 16384

noncomputable section

namespace Cert.Ref

open Idealize.ShloMosaic Cert.ReferenceIdeal Cert.ReferenceIdeal.Gen

theorem numel_row : (⟨2, ![1, 256]⟩ : Shape).numel = 256 := by decide +kernel

theorem fold_add {N : ℕ} (g : Fin N → EReal) (v : EReal) : (List.finRange N).foldl (fun r n => r + g n) v = v + ∑ n, g n := by
  have h : ∀ (l : List (Fin N)) (v : EReal), l.foldl (fun r n => r + g n) v = v + (l.map g).sum := by
    intro l
    induction l with
    | nil => intro v; simp
    | cons a l ih => intro v; simp only [List.foldl_cons, List.map_cons, List.sum_cons, ih, add_assoc]
  rw [h, ← List.ofFn_eq_map, List.sum_ofFn]

theorem sum_prefix (f : Fin 256 → EReal) (j : Fin 256) :
    (∑ n : Fin 256, if h : 255 ≤ j.val + n.val ∧ j.val + n.val - 255 < 256 then f ⟨j.val + n.val - 255, h.2⟩ else 0)
      = ∑ i : Fin 256, if i.val ≤ j.val then f i else 0 := by
  rw [← Finset.sum_filter, ← Finset.sum_subset (Finset.subset_univ (Finset.univ.filter fun n : Fin 256 => 255 ≤ j.val + n.val))]
  · refine Finset.sum_bij' (fun n _ => (⟨j.val + n.val - 255, by omega⟩ : Fin 256)) (fun i hi => (⟨i.val + 255 - j.val, by
        have := (Finset.mem_filter.1 hi).2; omega⟩ : Fin 256)) ?_ ?_ ?_ ?_ ?_
    · intro n hn; simp only [Finset.mem_filter, Finset.mem_univ, true_and] at hn ⊢; omega
    · intro n hn; simp only [Finset.mem_filter, Finset.mem_univ, true_and] at hn ⊢; omega
    · intro n hn; simp only [Finset.mem_filter, Finset.mem_univ, true_and] at hn; exact Fin.ext (by show j.val + n.val - 255 + 255 - j.val = n.val; omega)
    · intro n hn; simp only [Finset.mem_filter, Finset.mem_univ, true_and] at hn; exact Fin.ext (by show j.val + (n.val + 255 - j.val) - 255 = n.val; omega)
    · intro n hn; simp only [Finset.mem_filter, Finset.mem_univ, true_and] at hn; rw [dif_pos ⟨hn, by omega⟩]
  · intro n _ hn
    simp only [Finset.mem_filter, Finset.mem_univ, true_and] at hn
    rw [dif_neg (fun h => hn h.1)]

theorem symm_row (n : Fin (⟨2, ![1, 256]⟩ : Shape).numel) :
    (⟨2, ![1, 256]⟩ : Shape).rowMajor.symm n = ix2 (0 : Fin 1) (n.cast numel_row) := by
  rw [Equiv.symm_apply_eq]
  refine Fin.ext ?_
  rw [Shape.rowMajor_val_two]
  show n.val = 0 * 256 + n.val
  omega

/-- The running sum along the second axis. -/
theorem prefix_apply (x : FVec Ideal S128x256 .f32) (v : FVec Ideal S_ .f32) (hv : v ix0 = 0) (T : Fin 128) (j : Fin 256) :
    Host.reduceWindowAdd ![1, 256] ![1, 1] ![0, 255] ![0, 0] x v reduceWindows_S128x256_S128x256_w1s1p0_0_w256s1p255_0 h_S_ (ix2 T j)
      = ∑ i : Fin 256, if i.val ≤ j.val then x (ix2 T i) else 0 := by
  have h0 : v (Shape.Idx.first h_S_) = 0 := (congrArg v (funext fun a => a.elim0)).trans hv
  show Host.reduceWindow (fun a b : EReal => a + b) ![1, 256] ![1, 1] ![0, 255] ![0, 0] x v reduceWindows_S128x256_S128x256_w1s1p0_0_w256s1p255_0 h_S_ (ix2 T j) = _
  unfold Host.reduceWindow
  dsimp only
  refine (fold_add _ _).trans ?_
  rw [h0, zero_add]
  refine (Fintype.sum_equiv (finCongr numel_row) _ _ fun n => ?_).trans (sum_prefix (fun i => x (ix2 T i)) j)
  have e0 : ((⟨2, ![1, 256]⟩ : Shape).rowMajor.symm n 0).val = 0 := by rw [symm_row]; rfl
  have e1 : ((⟨2, ![1, 256]⟩ : Shape).rowMajor.symm n 1).val = n.val := by rw [symm_row]; rfl
  have hT := T.isLt
  have hj := j.isLt
  have hn : n.val < 256 := (n.cast numel_row).isLt
  show _ = dite (255 ≤ j.val + n.val ∧ j.val + n.val - 255 < 256) _ _
  split
  · next hin =>
    have h1 := hin 1
    change 255 ≤ j.val * 1 + ((⟨2, ![1, 256]⟩ : Shape).rowMajor.symm n 1).val
      ∧ j.val * 1 + ((⟨2, ![1, 256]⟩ : Shape).rowMajor.symm n 1).val - 255 < 256 at h1
    rw [e1, Nat.mul_one] at h1
    refine Eq.trans ?_ (dif_pos h1).symm
    refine congrArg x (funext fun a => Fin.ext ?_)
    match a with
    | ⟨0, _⟩ =>
      show T.val * 1 + ((⟨2, ![1, 256]⟩ : Shape).rowMajor.symm n 0).val - 0 = T.val
      rw [e0]; omega
    | ⟨1, _⟩ =>
      show j.val * 1 + ((⟨2, ![1, 256]⟩ : Shape).rowMajor.symm n 1).val - 255 = j.val + n.val - 255
      rw [e1, Nat.mul_one]
  · next hin =>
    refine Eq.symm (dif_neg (fun h1 : 255 ≤ j.val + n.val ∧ j.val + n.val - 255 < 256 => hin fun a => ?_))
    match a with
    | ⟨0, _⟩ =>
      show 0 ≤ T.val * 1 + ((⟨2, ![1, 256]⟩ : Shape).rowMajor.symm n 0).val
        ∧ T.val * 1 + ((⟨2, ![1, 256]⟩ : Shape).rowMajor.symm n 0).val - 0 < 128
      rw [e0]; omega
    | ⟨1, _⟩ =>
      show 255 ≤ j.val * 1 + ((⟨2, ![1, 256]⟩ : Shape).rowMajor.symm n 1).val
        ∧ j.val * 1 + ((⟨2, ![1, 256]⟩ : Shape).rowMajor.symm n 1).val - 255 < 256
      rw [e1, Nat.mul_one]; exact h1

/-- The batched lookup: the entry of the row at the index word, read signed and clamped. -/
theorem lookup_apply (x : FVec Ideal S2x16384 .f32) (idx : IVec S2x512x512x6x6x6x1 32) (b : Fin 2) (p q : Fin 512) (i j k : Fin 6) :
    Host.gather gather_S2x16384_S2x512x512x6x6x6x1_S2x512x512x6x6x6_n_1_0_0_1_6_11 x idx (ix6 b p q i j k)
      = x (ix2 b ⟨min (idx (ix7 b p q i j k 0)).toInt.toNat 16383, by omega⟩) := by
  unfold Host.gather
  congr 1
  funext a
  refine Fin.ext ?_
  let d := gather_S2x16384_S2x512x512x6x6x6x1_S2x512x512x6x6x6_n_1_0_0_1_6_11
  show d.start (ix6 b p q i j k) idx a + d.batchCoord (ix6 b p q i j k) a + d.offCoord (ix6 b p q i j k) a = _
  match a with
  | ⟨0, _⟩ =>
    show d.start (ix6 b p q i j k) idx 0 + d.batchCoord (ix6 b p q i j k) 0 + d.offCoord (ix6 b p q i j k) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show d.start (ix6 b p q i j k) idx 1 + d.batchCoord (ix6 b p q i j k) 1 + d.offCoord (ix6 b p q i j k) 1
      = min (idx (ix7 b p q i j k 0)).toInt.toNat 16383
    rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hs : d.siIdx (ix6 b p q i j k) ⟨List.idxOf (1 : Fin 2) d.startIndexMap,
        List.idxOf_lt_length_iff.2 (List.mem_singleton.mpr rfl)⟩ = ix7 b p q i j k 0 := by
      funext e; refine Fin.ext ?_
      match e with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
    rw [hs]
    rfl

/-- The sum over the last three of six axes. -/
theorem sum3_apply (x : FVec Ideal S2x512x512x6x6x6 .f32) (init : EReal) (b : Fin 2) (p q : Fin 512) :
    Ideal.hostReduceAdd reducesTo_S2x512x512x6x6x6_S2x512x512_d3_4_5 x init (ix3 b p q)
      = init + ∑ i : Fin 6, ∑ j : Fin 6, ∑ k : Fin 6, x (ix6 b p q i j k) := by
  refine congrArg (init + ·) ((Finset.sum_filter_eq_sum_of_fiber _
    (fun k : Fin 6 × Fin 6 × Fin 6 => (ix6 b p q k.1 k.2.1 k.2.2 : S2x512x512x6x6x6.Idx))
    (fun _ _ e => Prod.ext (congrFun e 3) (Prod.ext (congrFun e 4) (congrFun e 5))) (fun i => ?_) x).trans ?_)
  · constructor
    · intro e
      refine ⟨(i 3, i 4, i 5), funext fun a => Fin.ext ?_⟩
      match a with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => rfl
      | ⟨5, _⟩ => rfl
    · rintro ⟨k, rfl⟩
      refine funext fun a => Fin.ext ?_
      match a with
      | ⟨0, _⟩ => rfl
      | ⟨1, _⟩ => rfl
      | ⟨2, _⟩ => rfl
  · simp only [Fintype.sum_prod_type]

end Cert.Ref

end

end
-- ==== Proof.RHist.lean ====
module

public import proofs.«01_k».proof.Proof.ROps
public import proofs.«01_k».proof.Proof.Table

/-! The reference's tables of accumulated counts. -/

@[expose] public section

set_option maxRecDepth 16384

noncomputable section

namespace Cert.Ref

open Idealize.ShloMosaic Cert.ReferenceIdeal Cert.ReferenceIdeal.Gen Cert.ReferenceIdeal.Value Cert.Val

variable (V0 : Valuation τ sig (Elt Ideal))

/-- The argument, read by row and column. -/
def refX (b : Fin 2) (p q : Fin 512) : EReal := (V0 (Proc.devRef .tc main_arg0) : S2x1x512x512.Idx → EReal) (ix4 b 0 p q)

theorem r_edge (i : Fin 255) : (res_main_call0_v6 V0 : S255.Idx → EReal) (ix1 i) = ((i.val / 255 : ℝ) : EReal) := by
  unfold res_main_call0_v6; clean_types; pointwise []
  rw [sitofp_ofNat _ (by omega), c1132396544, divc _ _ (by norm_num)]; norm_num

theorem node_of (a d : EReal) (e : Fin 255 → EReal) (ha : a = 0) (hd : d = 1) (he : ∀ i : Fin 255, e i = ((i.val / 255 : ℝ) : EReal))
    (i : Fin 256) : (if h : i.val < 255 then a * (1 - e ⟨i.val, h⟩) + d * e ⟨i.val, h⟩ else d) = ((i.val / 255 : ℝ) : EReal) := by
  rw [ha, hd]
  by_cases h : i.val < 255
  · rw [dif_pos h, he, zero_mul, one_mul, zero_add]
  · rw [dif_neg h, show i.val = 255 by omega]; norm_num

theorem r_low : (res_main_call0_v0 V0 : S_.Idx → EReal) ix0 = (0 : EReal) := by
  show (constant (F := Ideal) S_ FTy.f32 0#32 ix0 : EReal) = 0
  pointwise []

theorem r_high : (res_main_call0_v1 V0 : S_.Idx → EReal) ix0 = (1 : EReal) := by
  show (constant (F := Ideal) S_ FTy.f32 1065353216#32 ix0 : EReal) = 1
  pointwise []

theorem clip_of (T : Fin 4096 → EReal) (g : Fin 256 → EReal) (h : ∀ i, g i = mean T i) (i : Fin 256) :
    min (Ideal.div (g i) (∑ x, g x + Ideal.ofBits .f32 786163455#32) * Ideal.ofBits .f32 1166016512#32)
      (Ideal.ofBits .f32 1115684864#32) = clip T i := by
  obtain rfl : g = mean T := funext h
  rfl

theorem r_z (b : Fin 2) (v : Fin 64) (k : Fin 4096) (i : Fin 256) (t : ℝ) (ht : tileOf (refX V0) b v k = (t : EReal)) :
    (res_main_v11 V0 : S2x1x64x4096x256.Idx → EReal) (ix5 b 0 v k i)
      = (tileOf (refX V0) b v k - ((i.val : ℝ) : EReal) * ((1 / 255 : ℝ) : EReal)) * Ideal.ofBits .f32 1148846080#32 := by
  unfold res_main_v11; clean_types; pointwise []
  refine (congrArg (fun s => Ideal.div (tileOf (refX V0) b v k - s) (Ideal.div 1 (Ideal.ofBits .f32 1148846080#32)))
    (node_of _ _ (fun i => res_main_call0_v6 V0 (ix1 i)) (r_low V0) (r_high V0) (r_edge V0) i)).trans ?_
  rw [ht, c1148846080, ← EReal.coe_one, divc _ _ (by norm_num), ← EReal.coe_sub, divc _ _ (by norm_num), ← EReal.coe_mul,
    ← EReal.coe_sub, ← EReal.coe_mul]
  congr 1
  ring

theorem r_mean (b : Fin 2) (v : Fin 64) (i : Fin 256) (h : ∀ k, ∃ t : ℝ, tileOf (refX V0) b v k = (t : EReal)) :
    (res_main_v18 V0 : S2x1x64x256.Idx → EReal) (ix4 b 0 v i) = mean (tileOf (refX V0) b v) i := by
  unfold res_main_v18; clean_types; pointwise []
  unfold mean soft
  refine congrArg (fun s => Ideal.div s _) (Finset.sum_congr rfl fun k _ => ?_)
  obtain ⟨t, ht⟩ := h k
  rw [← r_z V0 b v k i t ht]

theorem r_clip (b : Fin 2) (v : Fin 64) (i : Fin 256) (h : ∀ k, ∃ t : ℝ, tileOf (refX V0) b v k = (t : EReal)) :
    (res_main_v29 V0 : S128x256.Idx → EReal) (ix2 ⟨b.val * 64 + v.val, by omega⟩ i) = clip (tileOf (refX V0) b v) i := by
  unfold res_main_v29; clean_types; pointwise []
  exact clip_of _ (fun i => res_main_v18 V0 (ix4 b 0 v i)) (fun i => r_mean V0 b v i h) i

theorem r_excess (b : Fin 2) (v : Fin 64) (h : ∀ k, ∃ t : ℝ, tileOf (refX V0) b v k = (t : EReal)) :
    (res_main_v32 V0 : S128.Idx → EReal) (ix1 ⟨b.val * 64 + v.val, by omega⟩) = excess (tileOf (refX V0) b v) := by
  unfold res_main_v32; clean_types; pointwise []
  exact congrArg _ (Finset.sum_congr rfl fun i _ => r_clip V0 b v i h)

theorem r_256 : (res_main_call1_v0 V0 : S_.Idx → EReal) ix0 = Ideal.ofBits .f32 1132462080#32 := by
  unfold res_main_call1_v0; clean_types; pointwise []
  rw [c1132462080]
  exact (sitofp_ofNat 256 (by norm_num)).trans (by norm_num)

theorem sel_rem (r : EReal) :
    Scalar.select (IntOp.andi (IntOp.cmpi .ne (BitVec.ofBool (decide (r < 0)))
        (BitVec.ofBool (decide (Ideal.ofBits FTy.f32 1132462080#32 < 0)))) (BitVec.ofBool (decide (r ≠ 0))))
      (r + Ideal.ofBits FTy.f32 1132462080#32) r = if r < 0 then r + Ideal.ofBits FTy.f32 1132462080#32 else r := by
  have h : ¬ Ideal.ofBits FTy.f32 1132462080#32 < 0 := by
    rw [c1132462080, ← EReal.coe_zero, EReal.coe_lt_coe_iff]; norm_num
  rw [decide_eq_false h]
  by_cases h1 : r < 0
  · rw [if_pos h1, decide_eq_true h1, decide_eq_true (ne_of_lt h1)]; rfl
  · rw [if_neg h1, decide_eq_false h1]
    by_cases h2 : r ≠ 0
    · rw [decide_eq_true h2]; rfl
    · rw [decide_eq_false h2]; rfl

theorem r_resid (b : Fin 2) (v : Fin 64) (h : ∀ k, ∃ t : ℝ, tileOf (refX V0) b v k = (t : EReal)) :
    (res_main_v33 V0 : S128.Idx → EReal) (ix1 ⟨b.val * 64 + v.val, by omega⟩) = resid (tileOf (refX V0) b v) := by
  unfold res_main_v33 res_main_call1_v2; clean_types; pointwise []
  rw [r_excess V0 b v h, r_256]
  exact sel_rem (Ideal.remf (excess (tileOf (refX V0) b v)) (Ideal.ofBits .f32 1132462080#32))
end Cert.Ref
end
end
-- ==== Proof.RRes.lean ====
module

public import proofs.«01_k».proof.Proof.RHist
public import proofs.«01_k».proof.Proof.Table

/-! The reference's interpolated image, element by element. -/

@[expose] public section

set_option maxRecDepth 16384

noncomputable section

namespace Cert.Ref

open Idealize.ShloMosaic Cert.ReferenceIdeal Cert.ReferenceIdeal.Gen Cert.ReferenceIdeal.Value Cert.Val

variable (V0 : Valuation τ sig (Elt Ideal))

/-- The array of redistributed counts. -/
def shareArr : FVec Ideal S128x256 .f32 :=
  addf (addf (res_main_v29 V0) (broadcastInDim S128x256 ![0, 1] bcast_S128x1_S128x256_0_1 (broadcastInDim S128x1 ![0] bcast_S128_S128x1_0
    (Host.divf (subf (res_main_v32 V0) (res_main_v33 V0)) (broadcastInDim S128 ![] bcast_S_S128 (constant S_ .f32 0x43800000#32))))))
    (uitofp .f32 (cmpf .olt (broadcastInDim S128x256 ![0, 1] bcast_S1x256_S128x256_0_1 (broadcastInDim S1x256 ![1] bcast_S256_S1x256_1
      (sitofp .f32 (iotaInDim S256 32 0)))) (broadcastInDim S128x256 ![0, 1] bcast_S128x1_S128x256_0_1 (broadcastInDim S128x1 ![0] bcast_S128_S128x1_0 (res_main_v33 V0)))))

/-- The accumulated counts of an array of counts. -/
def accOf (A : FVec Ideal S128x256 .f32) : FVec Ideal S128x256 .f32 :=
  minimumf (broadcastInDim S128x256 ![] bcast_S_S128x256 (sitofp .f32 (constantI S_ 32 255#32)))
    (maximumf (broadcastInDim S128x256 ![] bcast_S_S128x256 (id (constant S_ .f32 0x00000000#32)))
      (Host.divf (mulf (Host.reduceWindowAdd ![1, 256] ![1, 1] ![0, 255] ![0, 0] A (broadcastInDim S_ ![] bcast_S_S_ (constant S_ .f32 0x00000000#32))
          reduceWindows_S128x256_S128x256_w1s1p0_0_w256s1p255_0 h_S_) (broadcastInDim S128x256 ![] bcast_S_S128x256 (constant S_ .f32 0x437F0000#32)))
        (broadcastInDim S128x256 ![] bcast_S_S128x256 (constant S_ .f32 0x45800000#32))))

/-- The flat table of an array of accumulated counts. -/
def tabOf (A : FVec Ideal S128x256 .f32) : FVec Ideal S2x16384 .f32 :=
  shapeCast _ (shapeCast _ (transpose S2x1x256x8x8 [0, 1, 4, 2, 3] (shapeCast _ A shapeCasts_S128x256_S2x1x8x8x256)
    transposes_S2x1x8x8x256_S2x1x256x8x8_0_1_4_2_3) shapeCasts_S2x1x256x8x8_S2x256x8x8) shapeCasts_S2x256x8x8_S2x16384

/-- The positions of the lookups. -/
def idxArr : IVec S2x512x512x6x6x6x1 32 :=
  broadcastInDim S2x512x512x6x6x6x1 ![0, 1, 2, 3, 4, 5] bcast_S2x512x512x6x6x6_S2x512x512x6x6x6x1_0_1_2_3_4_5
    (select (cmpi .slt (res_main_v297 V0) (broadcastInDim S2x512x512x6x6x6 ![] bcast_S_S2x512x512x6x6x6 (constantI S_ 32 0#32)))
      (addi (res_main_v297 V0) (broadcastInDim S2x512x512x6x6x6 ![] bcast_S_S2x512x512x6x6x6 (constantI S_ 32 16384#32))) (res_main_v297 V0))

theorem zero_at : (id (constant (F := Ideal) S_ FTy.f32 0#32) ix0 : EReal) = 0 := by
  show (constant (F := Ideal) S_ FTy.f32 0#32 ix0 : EReal) = 0
  pointwise []

theorem splX_if (x z : EReal) (hz : z = 0) :
    (if x < 1 then spl1 x else if x < Ideal.ofBits .f32 1073741824#32 then spl2 x
      else if x < Ideal.ofBits .f32 1077936128#32 then spl3 x else z) = splX x := by
  rw [hz]; rfl

theorem ubit_ite (p : Prop) [Decidable p] :
    FloatOps.uitofp (F := Ideal) .f32 (BitVec.ofBool (decide p)) = if p then 1 else 0 := by
  by_cases h : p
  · rw [if_pos h, decide_eq_true h]; show (((1 : ℕ) : ℝ) : EReal) = 1; norm_num
  · rw [if_neg h, decide_eq_false h]; show (((0 : ℕ) : ℝ) : EReal) = 0; norm_num

theorem tab_at (A : FVec Ideal S128x256 .f32) (b : Fin 2) (a : Fin 256) (r s : Fin 8) :
    tabOf A (ix2 b ⟨(a.val * 8 + r.val) * 8 + s.val, by omega⟩) = A (ix2 ⟨b.val * 64 + (r.val * 8 + s.val), by omega⟩ a) := by
  unfold tabOf
  pointwise []
  exact congrArg (fun T => A (ix2 T a)) (Fin.ext (by dsimp only; omega))

theorem acc_at (A : FVec Ideal S128x256 .f32) (T : Fin 128) (j : Fin 256) :
    accOf A (ix2 T j) = min (Ideal.ofBits .f32 1132396544#32)
      (max 0 ((∑ i : Fin 256, if i.val ≤ j.val then A (ix2 T i) else 0) * ((255 / 4096 : ℝ) : EReal))) := by
  unfold accOf
  pointwise []
  rw [prefix_apply A _ (by pointwise []) T j]
  have z : (id (constant (F := Ideal) S_ FTy.f32 0#32) ix0 : EReal) = 0 := zero_at
  have e : FloatOps.sitofp (F := Ideal) FTy.f32 255#32 = Ideal.ofBits .f32 1132396544#32 := by
    rw [c1132396544]; exact (sitofp_ofNat 255 (by norm_num)).trans (by norm_num)
  rw [z, e, c1132396544, c1166016512, Ideal.div_coe (by norm_num), mul_assoc, ← EReal.coe_mul]
  norm_num

theorem share_at (b : Fin 2) (v : Fin 64) (i : Fin 256) (h : ∀ k, ∃ t : ℝ, tileOf (refX V0) b v k = (t : EReal)) :
    shareArr V0 (ix2 ⟨b.val * 64 + v.val, by omega⟩ i) = share (tileOf (refX V0) b v) i := by
  unfold shareArr
  pointwise []
  rw [r_clip V0 b v i h, r_excess V0 b v h, r_resid V0 b v h, ubit_ite, sitofp_bin]
  rfl

theorem cdf_at (b : Fin 2) (v : Fin 64) (j : Fin 256) (h : ∀ k, ∃ t : ℝ, tileOf (refX V0) b v k = (t : EReal)) :
    accOf (shareArr V0) (ix2 ⟨b.val * 64 + v.val, by omega⟩ j) = cdf (tileOf (refX V0) b v) j := by
  have e : ∀ n, shareArr V0 (ix2 ⟨b.val * 64 + v.val, by omega⟩ n) = share (tileOf (refX V0) b v) n := fun n => share_at V0 b v n h
  rw [acc_at]
  unfold cdf
  simp only [e]

theorem idx_at (b : Fin 2) (p q : Fin 512) (i j k : Fin 6) :
    idxArr V0 (ix7 b p q i j k 0) = Scalar.select (IntOp.cmpi .slt ((res_main_v297 V0 : S2x512x512x6x6x6.Idx → BitVec 32) (ix6 b p q i j k)) 0#32)
      (IntOp.addi ((res_main_v297 V0 : S2x512x512x6x6x6.Idx → BitVec 32) (ix6 b p q i j k)) 16384#32)
      ((res_main_v297 V0 : S2x512x512x6x6x6.Idx → BitVec 32) (ix6 b p q i j k)) := by
  unfold idxArr
  pointwise []

/-- The spline of the first distance. -/
def s1 (b : Fin 2) (p q : Fin 512) (i : Fin 6) : EReal := splX ((res_main_v83 V0 : S2x512x512x6.Idx → EReal) (ix4 b p q i))

/-- The spline of the second distance. -/
def s2 (p : Fin 512) (i : Fin 6) : EReal := splX ((res_main_v156 V0 : S512x6.Idx → EReal) (ix2 p i))

/-- The spline of the third distance. -/
def s3 (p : Fin 512) (i : Fin 6) : EReal := splX ((res_main_v229 V0 : S512x6.Idx → EReal) (ix2 p i))

theorem two_at (b : Fin 2) (p q : Fin 512) (i j : Fin 6) :
    (res_main_v310 V0 : S2x512x512x6x6x1.Idx → EReal) (ix6 b p q i j 0) = s1 V0 b p q i * s2 V0 p j := by
  unfold res_main_v310 res_main_v198 res_main_v197 res_main_v158 res_main_v157 res_main_v125 res_main_v124 res_main_v85 res_main_v84
  clean_types; pointwise []
  exact congrArg₂ (fun x y : EReal => x * y) (splX_if _ _ zero_at) (splX_if _ _ zero_at)

theorem elem_at (b : Fin 2) (p q : Fin 512) (i j k : Fin 6) :
    (res_main_v315 V0 : S2x512x512x6x6x6.Idx → EReal) (ix6 b p q i j k)
      = tabOf (accOf (shareArr V0)) (ix2 b ⟨min (idxArr V0 (ix7 b p q i j k 0)).toInt.toNat 16383, by omega⟩)
        * (s1 V0 b p q i * s2 V0 p j * s3 V0 q k) := by
  rw [← two_at V0 b p q i j, ← lookup_apply (tabOf (accOf (shareArr V0))) (idxArr V0) b p q i j k]
  unfold res_main_v315 res_main_v271 res_main_v270 res_main_v231 res_main_v230
  refine congrArg₂ (fun x y : EReal => x * y) rfl ?_
  clean_types; pointwise []
  exact congrArg _ (splX_if _ _ zero_at)

/-! The positions and their words. -/

theorem lin_node (a d : EReal) (e : Fin 511 → EReal) (ha : a = Ideal.ofBits .f32 3204972544#32) (hd : d = Ideal.ofBits .f32 1089536000#32)
    (he : ∀ i : Fin 511, e i = Ideal.div ((i.val : ℝ) : EReal) (Ideal.ofBits .f32 1140817920#32)) (p : Fin 512) :
    (if h : p.val < 511 then a * (1 - e ⟨p.val, h⟩) + d * e ⟨p.val, h⟩ else d) = (linR p.val : EReal) := by
  by_cases h : p.val < 511
  · rw [dif_pos h, he, ha, hd]; exact lin_of p.val
  · rw [dif_neg h, hd, lin_last, show p.val = 511 by omega]

theorem lin4 (i : Fin 511) : (res_main_call4_v6 V0 : S511.Idx → EReal) (ix1 i) = Ideal.div ((i.val : ℝ) : EReal) (Ideal.ofBits .f32 1140817920#32) := by
  unfold res_main_call4_v6; clean_types; pointwise []
  rw [sitofp_ofNat _ (by omega)]

theorem lin5 (i : Fin 511) : (res_main_call5_v6 V0 : S511.Idx → EReal) (ix1 i) = Ideal.div ((i.val : ℝ) : EReal) (Ideal.ofBits .f32 1140817920#32) := by
  unfold res_main_call5_v6; clean_types; pointwise []
  rw [sitofp_ofNat _ (by omega)]

theorem pos2 (p : Fin 512) : (res_main_v57 V0 : S512.Idx → EReal) (ix1 p) = (linR p.val : EReal) := by
  unfold res_main_v57; clean_types; pointwise []
  exact lin_node _ _ (fun i => res_main_call4_v6 V0 (ix1 i)) rfl rfl (lin4 V0) p

theorem pos3 (p : Fin 512) : (res_main_v58 V0 : S512.Idx → EReal) (ix1 p) = (linR p.val : EReal) := by
  unfold res_main_v58; clean_types; pointwise []
  exact lin_node _ _ (fun i => res_main_call5_v6 V0 (ix1 i)) rfl rfl (lin5 V0) p

theorem word2 (p : Fin 512) (i : Fin 6) :
    (res_main_v145 V0 : S512x6.Idx → BitVec 32) (ix2 p i) = BitVec.ofInt 32 (⌊linR p.val⌋ - 2 + (i.val : ℤ)) := by
  have hf := linR_fl p.val p.isLt
  unfold res_main_v145 res_main_v65; clean_types; pointwise []
  rw [pos2, fl_word _ hf.1 (by omega), word_r]

theorem word3 (p : Fin 512) (i : Fin 6) :
    (res_main_v218 V0 : S512x6.Idx → BitVec 32) (ix2 p i) = BitVec.ofInt 32 (⌊linR p.val⌋ - 2 + (i.val : ℤ)) := by
  have hf := linR_fl p.val p.isLt
  unfold res_main_v218 res_main_v65; clean_types; pointwise []
  rw [pos3, fl_word _ hf.1 (by omega), word_r]

theorem word1 (b : Fin 2) (p q : Fin 512) (i : Fin 6) (f : ℝ) (h0 : 0 ≤ f) (h1 : f ≤ 255)
    (hf : refX V0 b p q * Ideal.ofBits .f32 1132396544#32 = (f : EReal)) :
    (res_main_v72 V0 : S2x512x512x6.Idx → BitVec 32) (ix4 b p q i) = BitVec.ofInt 32 (⌊f⌋ - 2 + (i.val : ℤ)) := by
  have a0 := Int.floor_nonneg.mpr h0
  have a1 : ⌊f⌋ ≤ 255 := Int.floor_le_iff.mpr (by push_cast; linarith)
  unfold res_main_v72 res_main_v65 res_main_v61; clean_types; pointwise []
  refine (congrArg (fun t : EReal => IntOp.addi (FloatOps.fptosi (F := Ideal) (φ := .f32) 32 (Ideal.liftRound Int.floor t))
    (IntOp.addi 4294967294#32 (BitVec.ofNat 32 i.val))) hf).trans ?_
  rw [fl_word _ (by omega) (by omega), word_r]

theorem s2_at (p : Fin 512) (i : Fin 6) : s2 V0 p i = (wgt (linR p.val) i : EReal) := by
  have hf := linR_fl p.val p.isLt
  have e : (res_main_v156 V0 : S512x6.Idx → EReal) (ix2 p i) = ((|linR p.val - ((⌊linR p.val⌋ - 2 + (i.val : ℤ) : ℤ) : ℝ)| : ℝ) : EReal) := by
    unfold res_main_v156; clean_types; pointwise []
    rw [pos2, word2, dist_of _ _ (by omega) (by omega)]
  rw [s2, e, splX_coe]; rfl

theorem s3_at (p : Fin 512) (i : Fin 6) : s3 V0 p i = (wgt (linR p.val) i : EReal) := by
  have hf := linR_fl p.val p.isLt
  have e : (res_main_v229 V0 : S512x6.Idx → EReal) (ix2 p i) = ((|linR p.val - ((⌊linR p.val⌋ - 2 + (i.val : ℤ) : ℤ) : ℝ)| : ℝ) : EReal) := by
    unfold res_main_v229; clean_types; pointwise []
    rw [pos3, word3, dist_of _ _ (by omega) (by omega)]
  rw [s3, e, splX_coe]; rfl

theorem s1_at (b : Fin 2) (p q : Fin 512) (i : Fin 6) (f : ℝ) (h0 : 0 ≤ f) (h1 : f ≤ 255)
    (hf : refX V0 b p q * Ideal.ofBits .f32 1132396544#32 = (f : EReal)) : s1 V0 b p q i = (wgt f i : EReal) := by
  have a0 := Int.floor_nonneg.mpr h0
  have a1 : ⌊f⌋ ≤ 255 := Int.floor_le_iff.mpr (by push_cast; linarith)
  have e : (res_main_v83 V0 : S2x512x512x6.Idx → EReal) (ix4 b p q i) = ((|f - ((⌊f⌋ - 2 + (i.val : ℤ) : ℤ) : ℝ)| : ℝ) : EReal) := by
    unfold res_main_v83 res_main_v61; clean_types; pointwise []
    rw [word1 V0 b p q i f h0 h1 hf]
    refine (congrArg (fun t : EReal => FloatOps.absf (F := Ideal) (φ := .f32) (t - FloatOps.sitofp (F := Ideal) .f32
      (BitVec.ofInt 32 (⌊f⌋ - 2 + (i.val : ℤ))))) hf).trans ?_
    rw [dist_of _ _ (by omega) (by omega)]
  rw [s1, e, splX_coe]; rfl

theorem rem2 (p : Fin 512) (i : Fin 6) :
    (res_main_v146 V0 : S512x6.Idx → BitVec 32) (ix2 p i) = jrem ((res_main_v145 V0 : S512x6.Idx → BitVec 32) (ix2 p i)) 16#32 := by
  unfold res_main_v146 res_main_call11_v4 res_main_call11_v2 res_main_call11_v0; clean_types; pointwise []
  rfl

theorem rem3 (p : Fin 512) (i : Fin 6) :
    (res_main_v219 V0 : S512x6.Idx → BitVec 32) (ix2 p i) = jrem ((res_main_v218 V0 : S512x6.Idx → BitVec 32) (ix2 p i)) 16#32 := by
  unfold res_main_v219 res_main_call16_v4 res_main_call16_v2 res_main_call16_v0; clean_types; pointwise []
  rfl

theorem rem1 (b : Fin 2) (p q : Fin 512) (i : Fin 6) :
    (res_main_v73 V0 : S2x512x512x6.Idx → BitVec 32) (ix4 b p q i)
      = jrem ((res_main_v72 V0 : S2x512x512x6.Idx → BitVec 32) (ix4 b p q i)) 512#32 := by
  unfold res_main_v73 res_main_call6_v4 res_main_call6_v2 res_main_call6_v0; clean_types; pointwise []
  rfl

theorem flat_at (b : Fin 2) (p q : Fin 512) (i j k : Fin 6) :
    (res_main_v297 V0 : S2x512x512x6x6x6.Idx → BitVec 32) (ix6 b p q i j k)
      = flatW (reflW 512#32 256#32 511#32 ((res_main_v72 V0 : S2x512x512x6.Idx → BitVec 32) (ix4 b p q i)))
        (reflW 16#32 8#32 15#32 ((res_main_v145 V0 : S512x6.Idx → BitVec 32) (ix2 p j)))
        (reflW 16#32 8#32 15#32 ((res_main_v218 V0 : S512x6.Idx → BitVec 32) (ix2 q k))) := by
  unfold reflW
  rw [← rem1, ← rem2, ← rem3]
  unfold res_main_v297; clean_types; pointwise []
  rfl

/-- A summand of the reference's interpolation. -/
theorem term_at (b : Fin 2) (p q : Fin 512) (i j k : Fin 6) (f : ℝ) (h0 : 0 ≤ f) (h1 : f ≤ 255)
    (hf : refX V0 b p q * Ideal.ofBits .f32 1132396544#32 = (f : EReal))
    (hx : ∀ v k, ∃ t : ℝ, tileOf (refX V0) b v k = (t : EReal)) :
    (res_main_v315 V0 : S2x512x512x6x6x6.Idx → EReal) (ix6 b p q i j k)
      = ((vol (refX V0) b (spot 8 (linR p.val) j * 8 + spot 8 (linR q.val) k) (spot 256 f i)
          * (wgt f i * wgt (linR p.val) j * wgt (linR q.val) k) : ℝ) : EReal) := by
  have a0 := Int.floor_nonneg.mpr h0
  have a1 : ⌊f⌋ ≤ 255 := Int.floor_le_iff.mpr (by push_cast; linarith)
  obtain ⟨e1, l1⟩ := refl256_word (⌊f⌋ - 2 + (i.val : ℤ)) (by omega) (by omega)
  have l2 := spot8_lt p.val p.isLt j
  have l3 := spot8_lt q.val q.isLt k
  have ei : (idxArr V0 (ix7 b p q i j k 0)).toInt.toNat
      = (spot 256 f i * 8 + spot 8 (linR p.val) j) * 8 + spot 8 (linR q.val) k := by
    rw [idx_at, flat_at, word1 V0 b p q i f h0 h1 hf, word2, word3, e1, spot8_word p.val p.isLt, spot8_word q.val q.isLt]
    exact flatW_of _ _ _ l1 l2 l3
  have l1' : spot 256 f i < 256 := l1
  have et : tabOf (accOf (shareArr V0)) (ix2 b ⟨min (idxArr V0 (ix7 b p q i j k 0)).toInt.toNat 16383, by omega⟩)
      = (vol (refX V0) b (spot 8 (linR p.val) j * 8 + spot 8 (linR q.val) k) (spot 256 f i) : EReal) := by
    have := tab_at (accOf (shareArr V0)) b ⟨spot 256 f i, l1'⟩ ⟨_, l2⟩ ⟨_, l3⟩
    refine Eq.trans (congrArg (fun n => tabOf (accOf (shareArr V0)) (ix2 b n)) (Fin.ext ?_)) (this.trans ?_)
    · show min _ 16383 = _
      rw [ei]; dsimp only; omega
    · exact (cdf_at V0 b ⟨spot 8 (linR p.val) j * 8 + spot 8 (linR q.val) k, by omega⟩ ⟨spot 256 f i, l1'⟩ (hx _)).trans
        (vol_coe (refX V0) b ⟨spot 8 (linR p.val) j * 8 + spot 8 (linR q.val) k, by omega⟩ ⟨spot 256 f i, l1'⟩).symm
  rw [elem_at, et, s1_at V0 b p q i f h0 h1 hf, s2_at, s3_at, ← EReal.coe_mul, ← EReal.coe_mul, ← EReal.coe_mul]

theorem sum3_coe (g : Fin 6 → Fin 6 → Fin 6 → ℝ) :
    ∑ i, ∑ j, ∑ k, (g i j k : EReal) = ((∑ i, ∑ j, ∑ k, g i j k : ℝ) : EReal) := by
  simp only [Fin.sum_univ_six, EReal.coe_add]

theorem sum3_of (A : Fin 6 → Fin 6 → Fin 6 → EReal) (g : Fin 6 → Fin 6 → Fin 6 → ℝ) (h : ∀ i j k, A i j k = (g i j k : EReal)) :
    0 + ∑ i, ∑ j, ∑ k, A i j k = ((∑ i, ∑ j, ∑ k, g i j k : ℝ) : EReal) := by
  simp only [h, zero_add, sum3_coe]

/-- The reference's image before it is scaled. -/
theorem pre_at (b : Fin 2) (p q : Fin 512) (f : ℝ) (h0 : 0 ≤ f) (h1 : f ≤ 255)
    (hf : refX V0 b p q * Ideal.ofBits .f32 1132396544#32 = (f : EReal))
    (hx : ∀ v k, ∃ t : ℝ, tileOf (refX V0) b v k = (t : EReal)) :
    (res_main_v317 V0 : S2x1x512x512.Idx → EReal) (ix4 b 0 p q) = (preR (refX V0) b p q f : EReal) := by
  unfold res_main_v317; clean_types; pointwise []
  refine (sum3_apply _ _ b p q).trans ?_
  exact sum3_of _ _ fun i j k => term_at V0 b p q i j k f h0 h1 hf hx

/-! The scaling by the extremes. -/

theorem one_S (y : S_.Idx) : y = ix0 := funext fun a => a.elim0

theorem red_min {s : Shape} {axes : List (Fin s.rank)} (A : s.Idx → EReal) (init : S_.Idx → EReal) (h : s.ReducesTo axes S_)
    (hu : 0 < S_.numel) (a : EReal) :
    a ≤ Host.reduce (FloatOps.minimumf (F := Ideal) (φ := .f32)) A init h hu ix0 ↔ a ≤ init ix0 ∧ ∀ i, a ≤ A i := by
  unfold Host.reduce
  refine (le_foldl (fun n => A (s.rowMajor.symm n)) _ _ a).trans ?_
  rw [one_S (Shape.Idx.first hu)]
  refine and_congr_right fun _ => ⟨fun k i => ?_, fun k n _ => k _⟩
  have := k (s.rowMajor i) (List.mem_filter.mpr ⟨List.mem_finRange _, decide_eq_true (one_S _)⟩)
  rwa [Equiv.symm_apply_apply] at this

theorem red_max {s : Shape} {axes : List (Fin s.rank)} (A : s.Idx → EReal) (init : S_.Idx → EReal) (h : s.ReducesTo axes S_)
    (hu : 0 < S_.numel) (a : EReal) :
    Host.reduce (FloatOps.maximumf (F := Ideal) (φ := .f32)) A init h hu ix0 ≤ a ↔ init ix0 ≤ a ∧ ∀ i, A i ≤ a := by
  unfold Host.reduce
  refine (foldl_le (fun n => A (s.rowMajor.symm n)) _ _ a).trans ?_
  rw [one_S (Shape.Idx.first hu)]
  refine and_congr_right fun _ => ⟨fun k i => ?_, fun k n _ => k _⟩
  have := k (s.rowMajor i) (List.mem_filter.mpr ⟨List.mem_finRange _, decide_eq_true (one_S _)⟩)
  rwa [Equiv.symm_apply_apply] at this

theorem all4 (P : S2x1x512x512.Idx → Prop) : (∀ i, P i) ↔ ∀ b p q, P (ix4 b 0 p q) := by
  refine ⟨fun h b p q => h _, fun h y => ?_⟩
  idx_vars y
  obtain rfl : y1 = 0 := Subsingleton.elim _ _
  exact h y0 y2 y3

theorem low_at (A : FVec Ideal S2x1x512x512 .f32) :
    (Host.reduce (FloatOps.minimumf (F := Ideal) (φ := .f32)) A (constant (F := Ideal) S_ FTy.f32 0x7F800000#32)
      reducesTo_S2x1x512x512_S_d0_1_2_3 h_S_ ix0 : EReal) = loE (fun b p q => A (ix4 b 0 p q)) := by
  refine lo_of _ _ fun a => (red_min A _ _ _ a).trans ?_
  rw [all4, show (constant (F := Ideal) S_ FTy.f32 0x7F800000#32 ix0 : EReal) = ⊤ from top_of]
  exact ⟨fun h => h.2, fun h => ⟨le_top, h⟩⟩

theorem high_at (A : FVec Ideal S2x1x512x512 .f32) :
    (Host.reduce (FloatOps.maximumf (F := Ideal) (φ := .f32)) A (constant (F := Ideal) S_ FTy.f32 0xFF800000#32)
      reducesTo_S2x1x512x512_S_d0_1_2_3 h_S_ ix0 : EReal) = hiE (fun b p q => A (ix4 b 0 p q)) := by
  refine hi_of _ _ fun a => (red_max A _ _ _ a).trans ?_
  rw [all4, show (constant (F := Ideal) S_ FTy.f32 0xFF800000#32 ix0 : EReal) = ⊥ from bot_of]
  exact ⟨fun h => h.2, fun h => ⟨bot_le, h⟩⟩

/-- The scaled image of an array. -/
def finOf (A : FVec Ideal S2x1x512x512 .f32) : FVec Ideal S2x1x512x512 .f32 :=
  Host.divf (subf A (broadcastInDim S2x1x512x512 ![] bcast_S_S2x1x512x512 (Host.reduce FloatOps.minimumf A (constant S_ .f32 0x7F800000#32)
      reducesTo_S2x1x512x512_S_d0_1_2_3 h_S_)))
    (broadcastInDim S2x1x512x512 ![] bcast_S_S2x1x512x512 (addf (subf
      (Host.reduce FloatOps.maximumf A (constant S_ .f32 0xFF800000#32) reducesTo_S2x1x512x512_S_d0_1_2_3 h_S_)
      (Host.reduce FloatOps.minimumf A (constant S_ .f32 0x7F800000#32) reducesTo_S2x1x512x512_S_d0_1_2_3 h_S_))
      (constant S_ .f32 0x2EDBE6FF#32)))

theorem fin_gen (A : FVec Ideal S2x1x512x512 .f32) (L H : FVec Ideal S_ .f32) (b : Fin 2) (p q : Fin 512) :
    (Host.divf (subf A (broadcastInDim S2x1x512x512 ![] bcast_S_S2x1x512x512 L))
      (broadcastInDim S2x1x512x512 ![] bcast_S_S2x1x512x512 (addf (subf H L) (constant S_ .f32 0x2EDBE6FF#32))) (ix4 b 0 p q) : EReal)
      = Ideal.div (A (ix4 b 0 p q) - L ix0) (H ix0 - L ix0 + Ideal.ofBits .f32 786163455#32) := by
  pointwise []

theorem fin_of (A : FVec Ideal S2x1x512x512 .f32) (b : Fin 2) (p q : Fin 512) :
    (finOf A (ix4 b 0 p q) : EReal) = finE (fun b p q => A (ix4 b 0 p q)) b p q := by
  unfold finOf finE
  rw [fin_gen, low_at, high_at]

/-- The reference's result. -/
theorem res_at (f : Fin 2 → Fin 512 → Fin 512 → ℝ) (h0 : ∀ b p q, 0 ≤ f b p q) (h1 : ∀ b p q, f b p q ≤ 255)
    (hf : ∀ b p q, refX V0 b p q * Ideal.ofBits .f32 1132396544#32 = (f b p q : EReal))
    (hx : ∀ b p q, ∃ t : ℝ, refX V0 b p q = (t : EReal)) (b : Fin 2) (p q : Fin 512) :
    (finOf (res_main_v317 V0) (ix4 b 0 p q) : EReal) = finE (fun b p q => (preR (refX V0) b p q (f b p q) : EReal)) b p q := by
  rw [fin_of]
  congr 1
  funext b p q
  exact pre_at V0 b p q (f b p q) (h0 b p q) (h1 b p q) (hf b p q) fun v k => hx b _ _

end Cert.Ref

end

end
-- ==== Proof.lean ====
module

public import proofs.«01_k».proof.Defs
public import proofs.«01_k».proof.Proof.FrameP
public import proofs.«01_k».proof.Proof.FramePI
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KVal
public import proofs.«01_k».proof.Proof.RRes
public import Idealize.ShloMosaic.Adequacy
public import Idealize.ShloMosaic.Init

@[expose] public section

noncomputable section

namespace Cert.Proof

open Idealize.ShloMosaic Idealize.SL.Sem

/-- The named constants are the literals they replace, each at its value over the reals. -/
theorem preserves : Cert.preserves_Kernel_KernelIdeal :=
  ⟨IdealRules.named_const.statement Cert.KernelIdeal.κ "c1_255" .f32 0x3B808081#32 ((1 / 255 : ℝ) : EReal) rfl,
   IdealRules.named_const.statement Cert.KernelIdeal.κ "c81_40" .f32 0x4001999A#32 ((81 / 40 : ℝ) : EReal) rfl,
   IdealRules.named_const.statement Cert.KernelIdeal.κ "c1_24" .f32 0x3D2AAAAB#32 ((1 / 24 : ℝ) : EReal) rfl,
   IdealRules.named_const.statement Cert.KernelIdeal.κ "cm1_120" .f32 0xBC088889#32 ((-1 / 120 : ℝ) : EReal) rfl,
   IdealRules.named_const.statement Cert.KernelIdeal.κ "cm1_12" .f32 0xBDAAAAAB#32 ((-1 / 12 : ℝ) : EReal) rfl⟩

/-- The frame of the reference, from its run; the program has no semaphores. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

instance pre_facts : Cert.Pre_unit_range.Facts := ⟨by decide⟩

theorem real_of (y : EReal) (h0 : y ≥ ((0 : ℝ) : EReal)) (h1 : y ≤ ((1 : ℝ) : EReal)) :
    ∃ t : ℝ, y = (t : EReal) ∧ 0 ≤ t ∧ t ≤ 1 := by
  induction y using EReal.rec with
  | bot => exact absurd (le_bot_iff.1 h0) (EReal.coe_ne_bot 0)
  | top => exact absurd (top_le_iff.1 h1) (EReal.coe_ne_top 1)
  | coe t => exact ⟨t, rfl, EReal.coe_le_coe_iff.1 h0, EReal.coe_le_coe_iff.1 h1⟩

/-- An argument within the range holds reals between zero and one. -/
theorem unit_real (x : FVec Ideal Cert.Pre_unit_range.S2x1x512x512 .f32)
    (h : Cert.Pre_unit_range.fn (F := Ideal) x = (fun _ => 1#1)) (i : Cert.Pre_unit_range.S2x1x512x512.Idx) :
    ∃ t : ℝ, (x i : EReal) = (t : EReal) ∧ 0 ≤ t ∧ t ≤ 1 := by
  have hb : ∀ p q : Prop, ∀ [Decidable p] [Decidable q],
      BitVec.ofBool (decide p) &&& BitVec.ofBool (decide q) = 1#1 → p ∧ q := by
    intro p q _ _
    by_cases hp : p <;> by_cases hq : q <;> simp [hp, hq]
  have e := congrFun h i
  unfold Cert.Pre_unit_range.fn at e
  have e2 : BitVec.ofBool (decide (x i ≥ (constant (F := Ideal) Cert.Pre_unit_range.S_ .f32 0x00000000#32 ix0 : EReal)))
      &&& BitVec.ofBool (decide (x i ≤ (constant (F := Ideal) Cert.Pre_unit_range.S_ .f32 0x3F800000#32 ix0 : EReal))) = 1#1 := by
    pointwise [] at e ⊢
    exact e
  obtain ⟨hge, hle⟩ := hb _ _ e2
  have z0 : (constant (F := Ideal) Cert.Pre_unit_range.S_ .f32 0x00000000#32 ix0 : EReal) = ((0 : ℝ) : EReal) := by
    show Ideal.ofBits .f32 0x00000000#32 = _
    simp [Ideal.ofBits, Ideal.ieee]
  have z1 : (constant (F := Ideal) Cert.Pre_unit_range.S_ .f32 0x3F800000#32 ix0 : EReal) = ((1 : ℝ) : EReal) := by
    show Ideal.ofBits .f32 0x3F800000#32 = _
    simp [Ideal.ofBits, Ideal.ieee, -EReal.coe_mul, ← EReal.coe_mul]
    norm_num
  rw [z0] at hge
  rw [z1] at hle
  exact real_of (x i) hge hle

/-- The two results are equal on one device. -/
theorem same (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hp : Cert.Pre_unit_range.fn (F := Ideal)
      (m ((c.tc : Thread Cert.KernelIdeal.nD Cert.KernelIdeal.τ).loc Cert.KernelIdeal.main_arg0)) = (fun _ => 1#1))
    (he : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.Ref.finOf (Cert.ReferenceIdeal.Value.res_main_v317 (StableHlo.launchContents m' c))
      = (Cert.KernelIdeal.Own.W18 m g c (Proc.devRef .tc Cert.KernelIdeal.main_v104) :
        Cert.KernelIdeal.S2x1x512x512.Idx → EReal) := by
  have hr : ∀ b p q, ∃ t : ℝ, Cert.KernelIdeal.Val.argX m c b p q = (t : EReal) ∧ 0 ≤ t ∧ t ≤ 1 :=
    fun b p q => unit_real _ hp (ix4 b 0 p q)
  have hX : Cert.Ref.refX (StableHlo.launchContents m' c) = Cert.KernelIdeal.Val.argX m c := by
    funext b p q
    exact congrFun he (ix4 b 0 p q)
  choose t ht t0 t1 using hr
  have hf : ∀ b p q, Cert.KernelIdeal.Val.argX m c b p q * Ideal.ofBits .f32 1132396544#32
      = ((t b p q * 255 : ℝ) : EReal) := by
    intro b p q
    rw [ht, Cert.Val.c1132396544, ← EReal.coe_mul]
    norm_num
  have h0 : ∀ b p q, 0 ≤ t b p q * 255 := fun b p q => by nlinarith [t0 b p q]
  have h1 : ∀ b p q, t b p q * 255 ≤ 255 := fun b p q => by nlinarith [t1 b p q]
  have key : ∀ i : Cert.ReferenceIdeal.S2x1x512x512.Idx,
      (Cert.Ref.finOf (Cert.ReferenceIdeal.Value.res_main_v317 (StableHlo.launchContents m' c)) i : EReal)
        = (Cert.KernelIdeal.Own.W18 m g c (Proc.devRef .tc Cert.KernelIdeal.main_v104) :
          Cert.KernelIdeal.S2x1x512x512.Idx → EReal) i := by
    refine (Cert.Ref.all4 _).2 fun b p q => ?_
    have hA := Cert.KernelIdeal.Val.a_res m g c (fun b p q => t b p q * 255) h0 h1 hf b p q
    have hB := Cert.Ref.res_at (StableHlo.launchContents m' c) (fun b p q => t b p q * 255) h0 h1
      (by rw [hX]; exact hf) (by rw [hX]; exact fun b p q => ⟨_, ht b p q⟩) b p q
    rw [hX] at hB
    exact hB.trans hA.symm
  exact funext key

/-- Under the precondition the results of the two programs are equal. -/
theorem algebraic : Cert.algebraic_KernelIdeal_ReferenceIdeal_pre_unit_range := by
  intro m g m' g' hpre heq
  refine ⟨fun c => Cert.KernelIdeal.Own.W18 m g c (Proc.devRef .tc Cert.KernelIdeal.main_v104), ?_, ?_⟩
  · exact (θ_run Cert.KernelIdeal.defs _ _).mono (fun r h c => ⟨(h.1 c).2, (h.1 c).1⟩) (Cert.KernelIdeal.Own.run m g)
  · refine (θ_run Cert.ReferenceIdeal.defs _ _).mono (fun r h c => ⟨(h c).1.trans ?_, (h c).2⟩)
      (Cert.ReferenceIdeal.Value.run (F := Ideal) m' g')
    exact same m g m' c (hpre c) (heq c)

theorem claim : Cert.Claim := ⟨Cert.Kernel.Gen.facts, Cert.KernelIdeal.Gen.facts, Cert.ReferenceIdeal.Gen.facts, pre_facts,
  fun m ρ _ => Cert.Kernel.Own.frame m ρ, fun m ρ _ => Cert.KernelIdeal.Own.frame m ρ,
  fun m ρ _ => Cert.KernelIdeal.Own.frame m ρ, frame_ref, fun m ρ _ => frame_ref m ρ trivial, preserves, algebraic⟩

end Cert.Proof

end
